-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0))) = (fun _ => 1#1)

def Pre_KernelIdeal_spread_all_clear [hPre_spread_all_clear : Cert.Pre_spread_all_clear.Facts] (m : (ℓ : Loc Cert.KernelIdeal.nD Cert.KernelIdeal.τ Cert.KernelIdeal.sig) → Buf (Elt Ideal) ℓ) : Prop :=
  ∀ c : Dev Cert.KernelIdeal.nD,
    (Cert.Pre_spread_all_clear.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0))) = (fun _ => 1#1)

def Pre_ReferenceIdeal_spread_all_clear [hPre_spread_all_clear : Cert.Pre_spread_all_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_all_clear.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread_all_clear [hKernelIdeal : Cert.KernelIdeal.Facts] [hPre_spread_all_clear : Cert.Pre_spread_all_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_all_clear m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread_all_clear [hReferenceIdeal : Cert.ReferenceIdeal.Facts] [hPre_spread_all_clear : Cert.Pre_spread_all_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_all_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_clear_pre_spread [hKernelIdeal : Cert.KernelIdeal.Facts] [hReferenceIdeal : Cert.ReferenceIdeal.Facts] [hPre_spread : Cert.Pre_spread.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          (∀ i : (⟨1, ![16777216]⟩ : Shape).Idx, (Cert.On_clear.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16777216]⟩ : Shape).Idx, (Cert.On_clear.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v11) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_pre_spread_all_clear [hKernelIdeal : Cert.KernelIdeal.Facts] [hReferenceIdeal : Cert.ReferenceIdeal.Facts] [hPre_spread_all_clear : Cert.Pre_spread_all_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_all_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_spread : Cert.Pre_spread.Facts) (hPre_spread_all_clear : Cert.Pre_spread_all_clear.Facts) (hOn_clear : Cert.On_clear.Facts),
    quiescent_Kernel (hKernel := hKernel)
    ∧ quiescent_KernelIdeal (hKernelIdeal := hKernelIdeal)
    ∧ quiescent_KernelIdeal_pre_spread (hKernelIdeal := hKernelIdeal) (hPre_spread := hPre_spread)
    ∧ quiescent_KernelIdeal_pre_spread_all_clear (hKernelIdeal := hKernelIdeal) (hPre_spread_all_clear := hPre_spread_all_clear)
    ∧ quiescent_ReferenceIdeal (hReferenceIdeal := hReferenceIdeal)
    ∧ quiescent_ReferenceIdeal_pre_spread (hReferenceIdeal := hReferenceIdeal) (hPre_spread := hPre_spread)
    ∧ quiescent_ReferenceIdeal_pre_spread_all_clear (hReferenceIdeal := hReferenceIdeal) (hPre_spread_all_clear := hPre_spread_all_clear)
    ∧ preserves_Kernel_KernelIdeal
    ∧ algebraic_KernelIdeal_ReferenceIdeal_on_clear_pre_spread (hKernelIdeal := hKernelIdeal) (hReferenceIdeal := hReferenceIdeal) (hPre_spread := hPre_spread) (hOn_clear := hOn_clear)
    ∧ algebraic_KernelIdeal_ReferenceIdeal_pre_spread_all_clear (hKernelIdeal := hKernelIdeal) (hReferenceIdeal := hReferenceIdeal) (hPre_spread_all_clear := hPre_spread_all_clear)
-- ==== On_clear.lean ====
abbrev S16777216 : Shape := ⟨1, ![16777216]⟩
abbrev S_ : Shape := ⟨0, ![]⟩
abbrev S8 : Shape := ⟨1, ![8]⟩
abbrev S1 : Shape := ⟨1, ![1]⟩
abbrev S9 : Shape := ⟨1, ![9]⟩
abbrev S16777216x1 : Shape := ⟨2, ![16777216, 1]⟩
abbrev S1x9 : Shape := ⟨2, ![1, 9]⟩
abbrev S16777216x9 : Shape := ⟨2, ![16777216, 9]⟩

class Facts : Prop where
  reducesTo_S16777216_S_d0 : S16777216.ReducesTo [0] S_
  h_S_ : 0 < S_.numel
  bcast_S_S8 : S_.BroadcastsInDim S8 (![] : Fin 0 → Fin S8.rank)
  shapeCasts_S_S1 : S_.ShapeCasts S1
  bcast_S1_S8_0 : S1.BroadcastsInDim S8 (![0] : Fin 1 → Fin S8.rank)
  bcast_S_S1 : S_.BroadcastsInDim S1 (![] : Fin 0 → Fin S1.rank)
  concatenates_S8_S1_S9_d0 : Shape.Concatenates [S8, S1] S9 0
  bcast_S_S9 : S_.BroadcastsInDim S9 (![] : Fin 0 → Fin S9.rank)
  bcast_S16777216_S16777216x1_0 : S16777216.BroadcastsInDim S16777216x1 (![0] : Fin 1 → Fin S16777216x1.rank)
  bcast_S9_S1x9_1 : S9.BroadcastsInDim S1x9 (![1] : Fin 1 → Fin S1x9.rank)
  bcast_S16777216x1_S16777216x9_0_1 : S16777216x1.BroadcastsInDim S16777216x9 (![0, 1] : Fin 2 → Fin S16777216x9.rank)
  bcast_S1x9_S16777216x9_0_1 : S1x9.BroadcastsInDim S16777216x9 (![0, 1] : Fin 2 → Fin S16777216x9.rank)
  reducesTo_S16777216x9_S16777216_d1 : S16777216x9.ReducesTo [1] S16777216

variable [Facts]

def fn_linspace {F : FTy → Type} [FloatOps F] (arg0 : FVec F S_ .f32) (arg1 : FVec F S_ .f32) : FVec F S9 .f32 :=
  let v0 : FVec F S_ .f32 := subf arg1 arg0
  let cst : FVec F S_ .f32 := constant S_ .f32 0x41000000#32
  let v1 : FVec F S_ .f32 := Host.divf v0 cst
  let v2 : FVec F S8 .f32 := sitofp .f32 (iotaInDim S8 32 0)
  let cst_0 : FVec F S_ .f32 := constant S_ .f32 0x41000000#32
  let v3 : FVec F S8 .f32 := broadcastInDim S8 ![] bcast_S_S8 cst_0
  let v4 : FVec F S8 .f32 := Host.divf v2 v3
  let v5 : FVec F S1 .f32 := shapeCast S1 arg0 shapeCasts_S_S1
  let cst_1 : FVec F S_ .f32 := constant S_ .f32 0x3F800000#32
  let v6 : FVec F S8 .f32 := broadcastInDim S8 ![] bcast_S_S8 cst_1
  let v7 : FVec F S8 .f32 := subf v6 v4
  let v8 : FVec F S8 .f32 := broadcastInDim S8 ![0] bcast_S1_S8_0 v5
  let v9 : FVec F S8 .f32 := mulf v8 v7
  let v10 : FVec F S1 .f32 := shapeCast S1 arg1 shapeCasts_S_S1
  let v11 : FVec F S8 .f32 := broadcastInDim S8 ![0] bcast_S1_S8_0 v10
  let v12 : FVec F S8 .f32 := mulf v11 v4
  let v13 : FVec F S8 .f32 := addf v9 v12
  let v14 : FVec F S1 .f32 := broadcastInDim S1 ![] bcast_S_S1 arg1
  let v15 : FVec F S9 .f32 := (fun a b => concatenate S9 0 [⟨S8, a⟩, ⟨S1, b⟩] concatenates_S8_S1_S9_d0) v13 v14
  v15

def fn_part1 {F : FTy → Type} [FloatOps F] (main_v13 : IVec S16777216x9 1) (main_v18 : IVec S16777216x9 1) : IVec S16777216 1 :=
  let main_v19 : IVec S16777216x9 1 := ori main_v13 main_v18
  let main_c : IVec S_ 1 := constantI S_ 1 1#1
  let main_v20 : IVec S16777216 1 := (fun x v => Host.reduce IntOp.andi x v reducesTo_S16777216x9_S16777216_d1 h_S_) main_v19 main_c
  main_v20

def fn {F : FTy → Type} [FloatOps F] (main_arg0 : FVec F S16777216 .f32) : IVec S16777216 1 :=
  let main_cst : FVec F S_ .f32 := constant S_ .f32 0x7F800000#32
  let main_v0 : FVec F S_ .f32 := (fun x v => Host.reduce FloatOps.minimumf x v reducesTo_S16777216_S_d0 h_S_) main_arg0 main_cst
  let main_cst_0 : FVec F S_ .f32 := constant S_ .f32 0x358637BD#32
  let main_v1 : FVec F S_ .f32 := addf main_v0 main_cst_0
  let main_cst_1 : FVec F S_ .f32 := constant S_ .f32 0xFF800000#32
  let main_v2 : FVec F S_ .f32 := (fun x v => Host.reduce FloatOps.maximumf x v reducesTo_S16777216_S_d0 h_S_) main_arg0 main_cst_1
  let main_cst_2 : FVec F S_ .f32 := constant S_ .f32 0x358637BD#32
  let main_v3 : FVec F S_ .f32 := subf main_v2 main_cst_2
  let main_v4 : FVec F S9 .f32 := fn_linspace (F := F) main_v1 main_v3
  let main_v5 : FVec F S_ .f32 := subf main_v3 main_v1
  let main_cst_3 : FVec F S_ .f32 := constant S_ .f32 0x32800000#32
  let main_v6 : FVec F S_ .f32 := mulf main_v5 main_cst_3
  let main_v7 : FVec F S9 .f32 := broadcastInDim S9 ![] bcast_S_S9 main_v6
  let main_v8 : FVec F S9 .f32 := addf main_v4 main_v7
  let main_v9 : FVec F S16777216x1 .f32 := broadcastInDim S16777216x1 ![0] bcast_S16777216_S16777216x1_0 main_arg0
  let main_v10 : FVec F S1x9 .f32 := broadcastInDim S1x9 ![1] bcast_S9_S1x9_1 main_v4
  let main_v11 : FVec F S16777216x9 .f32 := broadcastInDim S16777216x9 ![0, 1] bcast_S16777216x1_S16777216x9_0_1 main_v9
  let main_v12 : FVec F S16777216x9 .f32 := broadcastInDim S16777216x9 ![0, 1] bcast_S1x9_S16777216x9_0_1 main_v10
  let main_v13 : IVec S16777216x9 1 := cmpf .ole main_v11 main_v12
  let main_v14 : FVec F S16777216x1 .f32 := broadcastInDim S16777216x1 ![0] bcast_S16777216_S16777216x1_0 main_arg0
  let main_v15 : FVec F S1x9 .f32 := broadcastInDim S1x9 ![1] bcast_S9_S1x9_1 main_v8
  let main_v16 : FVec F S16777216x9 .f32 := broadcastInDim S16777216x9 ![0, 1] bcast_S16777216x1_S16777216x9_0_1 main_v14
  let main_v17 : FVec F S16777216x9 .f32 := broadcastInDim S16777216x9 ![0, 1] bcast_S1x9_S16777216x9_0_1 main_v15
  let main_v18 : IVec S16777216x9 1 := cmpf .oge main_v16 main_v17
  fn_part1 (F := F) main_v13 main_v18
-- ==== Pre_spread.lean ====
abbrev S16777216 : Shape := ⟨1, ![16777216]⟩
abbrev S_ : Shape := ⟨0, ![]⟩

class Facts : Prop where
  reducesTo_S16777216_S_d0 : S16777216.ReducesTo [0] S_
  h_S_ : 0 < S_.numel
  bcast_S_S16777216 : S_.BroadcastsInDim S16777216 (![] : Fin 0 → Fin S16777216.rank)

variable [Facts]

def fn {F : FTy → Type} [FloatOps F] (main_arg0 : FVec F S16777216 .f32) : IVec S_ 1 :=
  let main_cst : FVec F S_ .f32 := constant S_ .f32 0x7F800000#32
  let main_v0 : FVec F S_ .f32 := (fun x v => Host.reduce FloatOps.minimumf x v reducesTo_S16777216_S_d0 h_S_) main_arg0 main_cst
  let main_cst_0 : FVec F S_ .f32 := constant S_ .f32 0x358637BD#32
  let main_v1 : FVec F S_ .f32 := addf main_v0 main_cst_0
  let main_cst_1 : FVec F S_ .f32 := constant S_ .f32 0xFF800000#32
  let main_v2 : FVec F S_ .f32 := (fun x v => Host.reduce FloatOps.maximumf x v reducesTo_S16777216_S_d0 h_S_) main_arg0 main_cst_1
  let main_cst_2 : FVec F S_ .f32 := constant S_ .f32 0x358637BD#32
  let main_v3 : FVec F S_ .f32 := subf main_v2 main_cst_2
  let main_v4 : FVec F S16777216 .f32 := Host.absf main_arg0
  let main_cst_3 : FVec F S_ .f32 := constant S_ .f32 0x7F800000#32
  let main_v5 : FVec F S16777216 .f32 := broadcastInDim S16777216 ![] bcast_S_S16777216 main_cst_3
  let main_v6 : IVec S16777216 1 := cmpf .olt main_v4 main_v5
  let main_c : IVec S_ 1 := constantI S_ 1 1#1
  let main_v7 : IVec S_ 1 := (fun x v => Host.reduce IntOp.andi x v reducesTo_S16777216_S_d0 h_S_) main_v6 main_c
  let main_v8 : FVec F S_ .f32 := subf main_v3 main_v1
  let main_cst_4 : FVec F S_ .f32 := constant S_ .f32 0x3F800001#32
  let main_v9 : FVec F S_ .f32 := mulf main_v8 main_cst_4
  let main_cst_5 : FVec F S_ .f32 := constant S_ .f32 0x370637BD#32
  let main_v10 : IVec S_ 1 := cmpf .ogt main_v9 main_cst_5
  let main_v11 : IVec S_ 1 := andi main_v7 main_v10
  main_v11
-- ==== Pre_spread_all_clear.lean ====
abbrev S16777216 : Shape := ⟨1, ![16777216]⟩
abbrev S_ : Shape := ⟨0, ![]⟩
abbrev S8 : Shape := ⟨1, ![8]⟩
abbrev S1 : Shape := ⟨1, ![1]⟩
abbrev S9 : Shape := ⟨1, ![9]⟩
abbrev S16777216x1 : Shape := ⟨2, ![16777216, 1]⟩
abbrev S1x9 : Shape := ⟨2, ![1, 9]⟩
abbrev S16777216x9 : Shape := ⟨2, ![16777216, 9]⟩

class Facts : Prop where
  reducesTo_S16777216_S_d0 : S16777216.ReducesTo [0] S_
  h_S_ : 0 < S_.numel
  bcast_S_S16777216 : S_.BroadcastsInDim S16777216 (![] : Fin 0 → Fin S16777216.rank)
  bcast_S_S8 : S_.BroadcastsInDim S8 (![] : Fin 0 → Fin S8.rank)
  shapeCasts_S_S1 : S_.ShapeCasts S1
  bcast_S1_S8_0 : S1.BroadcastsInDim S8 (![0] : Fin 1 → Fin S8.rank)
  bcast_S_S1 : S_.BroadcastsInDim S1 (![] : Fin 0 → Fin S1.rank)
  concatenates_S8_S1_S9_d0 : Shape.Concatenates [S8, S1] S9 0
  bcast_S_S9 : S_.BroadcastsInDim S9 (![] : Fin 0 → Fin S9.rank)
  bcast_S16777216_S16777216x1_0 : S16777216.BroadcastsInDim S16777216x1 (![0] : Fin 1 → Fin S16777216x1.rank)
  bcast_S9_S1x9_1 : S9.BroadcastsInDim S1x9 (![1] : Fin 1 → Fin S1x9.rank)
  bcast_S16777216x1_S16777216x9_0_1 : S16777216x1.BroadcastsInDim S16777216x9 (![0, 1] : Fin 2 → Fin S16777216x9.rank)
  bcast_S1x9_S16777216x9_0_1 : S1x9.BroadcastsInDim S16777216x9 (![0, 1] : Fin 2 → Fin S16777216x9.rank)
  reducesTo_S16777216x9_S16777216_d1 : S16777216x9.ReducesTo [1] S16777216

variable [Facts]

def fn_linspace {F : FTy → Type} [FloatOps F] (arg0 : FVec F S_ .f32) (arg1 : FVec F S_ .f32) : FVec F S9 .f32 :=
  let v0 : FVec F S_ .f32 := subf arg1 arg0
  let cst : FVec F S_ .f32 := constant S_ .f32 0x41000000#32
  let v1 : FVec F S_ .f32 := Host.divf v0 cst
  let v2 : FVec F S8 .f32 := sitofp .f32 (iotaInDim S8 32 0)
  let cst_0 : FVec F S_ .f32 := constant S_ .f32 0x41000000#32
  let v3 : FVec F S8 .f32 := broadcastInDim S8 ![] bcast_S_S8 cst_0
  let v4 : FVec F S8 .f32 := Host.divf v2 v3
  let v5 : FVec F S1 .f32 := shapeCast S1 arg0 shapeCasts_S_S1
  let cst_1 : FVec F S_ .f32 := constant S_ .f32 0x3F800000#32
  let v6 : FVec F S8 .f32 := broadcastInDim S8 ![] bcast_S_S8 cst_1
  let v7 : FVec F S8 .f32 := subf v6 v4
  let v8 : FVec F S8 .f32 := broadcastInDim S8 ![0] bcast_S1_S8_0 v5
  let v9 : FVec F S8 .f32 := mulf v8 v7
  let v10 : FVec F S1 .f32 := shapeCast S1 arg1 shapeCasts_S_S1
  let v11 : FVec F S8 .f32 := broadcastInDim S8 ![0] bcast_S1_S8_0 v10
  let v12 : FVec F S8 .f32 := mulf v11 v4
  let v13 : FVec F S8 .f32 := addf v9 v12
  let v14 : FVec F S1 .f32 := broadcastInDim S1 ![] bcast_S_S1 arg1
  let v15 : FVec F S9 .f32 := (fun a b => concatenate S9 0 [⟨S8, a⟩, ⟨S1, b⟩] concatenates_S8_S1_S9_d0) v13 v14
  v15

def fn_part2 {F : FTy → Type} [FloatOps F] (main_v11 : IVec S_ 1) (main_v32 : IVec S16777216 1) (main_c_12 : IVec S_ 1) : IVec S_ 1 :=
  let main_v33 : IVec S_ 1 := (fun x v => Host.reduce IntOp.andi x v reducesTo_S16777216_S_d0 h_S_) main_v32 main_c_12
  let main_v34 : IVec S_ 1 := andi main_v11 main_v33
  main_v34

def fn_part1 {F : FTy → Type} [FloatOps F] (main_arg0 : FVec F S16777216 .f32) (main_v11 : IVec S_ 1) (main_v13 : FVec F S_ .f32) : IVec S_ 1 :=
  let main_cst_8 : FVec F S_ .f32 := constant S_ .f32 0xFF800000#32
  let main_v14 : FVec F S_ .f32 := (fun x v => Host.reduce FloatOps.maximumf x v reducesTo_S16777216_S_d0 h_S_) main_arg0 main_cst_8
  let main_cst_9 : FVec F S_ .f32 := constant S_ .f32 0x358637BD#32
  let main_v15 : FVec F S_ .f32 := subf main_v14 main_cst_9
  let main_v16 : FVec F S9 .f32 := fn_linspace (F := F) main_v13 main_v15
  let main_v17 : FVec F S_ .f32 := subf main_v15 main_v13
  let main_cst_10 : FVec F S_ .f32 := constant S_ .f32 0x32800000#32
  let main_v18 : FVec F S_ .f32 := mulf main_v17 main_cst_10
  let main_v19 : FVec F S9 .f32 := broadcastInDim S9 ![] bcast_S_S9 main_v18
  let main_v20 : FVec F S9 .f32 := addf main_v16 main_v19
  let main_v21 : FVec F S16777216x1 .f32 := broadcastInDim S16777216x1 ![0] bcast_S16777216_S16777216x1_0 main_arg0
  let main_v22 : FVec F S1x9 .f32 := broadcastInDim S1x9 ![1] bcast_S9_S1x9_1 main_v16
  let main_v23 : FVec F S16777216x9 .f32 := broadcastInDim S16777216x9 ![0, 1] bcast_S16777216x1_S16777216x9_0_1 main_v21
  let main_v24 : FVec F S16777216x9 .f32 := broadcastInDim S16777216x9 ![0, 1] bcast_S1x9_S16777216x9_0_1 main_v22
  let main_v25 : IVec S16777216x9 1 := cmpf .ole main_v23 main_v24
  let main_v26 : FVec F S16777216x1 .f32 := broadcastInDim S16777216x1 ![0] bcast_S16777216_S16777216x1_0 main_arg0
  let main_v27 : FVec F S1x9 .f32 := broadcastInDim S1x9 ![1] bcast_S9_S1x9_1 main_v20
  let main_v28 : FVec F S16777216x9 .f32 := broadcastInDim S16777216x9 ![0, 1] bcast_S16777216x1_S16777216x9_0_1 main_v26
  let main_v29 : FVec F S16777216x9 .f32 := broadcastInDim S16777216x9 ![0, 1] bcast_S1x9_S16777216x9_0_1 main_v27
  let main_v30 : IVec S16777216x9 1 := cmpf .oge main_v28 main_v29
  let main_v31 : IVec S16777216x9 1 := ori main_v25 main_v30
  let main_c_11 : IVec S_ 1 := constantI S_ 1 1#1
  let main_v32 : IVec S16777216 1 := (fun x v => Host.reduce IntOp.andi x v reducesTo_S16777216x9_S16777216_d1 h_S_) main_v31 main_c_11
  let main_c_12 : IVec S_ 1 := constantI S_ 1 1#1
  fn_part2 (F := F) main_v11 main_v32 main_c_12

def fn {F : FTy → Type} [FloatOps F] (main_arg0 : FVec F S16777216 .f32) : IVec S_ 1 :=
  let main_cst : FVec F S_ .f32 := constant S_ .f32 0x7F800000#32
  let main_v0 : FVec F S_ .f32 := (fun x v => Host.reduce FloatOps.minimumf x v reducesTo_S16777216_S_d0 h_S_) main_arg0 main_cst
  let main_cst_0 : FVec F S_ .f32 := constant S_ .f32 0x358637BD#32
  let main_v1 : FVec F S_ .f32 := addf main_v0 main_cst_0
  let main_cst_1 : FVec F S_ .f32 := constant S_ .f32 0xFF800000#32
  let main_v2 : FVec F S_ .f32 := (fun x v => Host.reduce FloatOps.maximumf x v reducesTo_S16777216_S_d0 h_S_) main_arg0 main_cst_1
  let main_cst_2 : FVec F S_ .f32 := constant S_ .f32 0x358637BD#32
  let main_v3 : FVec F S_ .f32 := subf main_v2 main_cst_2
  let main_v4 : FVec F S16777216 .f32 := Host.absf main_arg0
  let main_cst_3 : FVec F S_ .f32 := constant S_ .f32 0x7F800000#32
  let main_v5 : FVec F S16777216 .f32 := broadcastInDim S16777216 ![] bcast_S_S16777216 main_cst_3
  let main_v6 : IVec S16777216 1 := cmpf .olt main_v4 main_v5
  let main_c : IVec S_ 1 := constantI S_ 1 1#1
  let main_v7 : IVec S_ 1 := (fun x v => Host.reduce IntOp.andi x v reducesTo_S16777216_S_d0 h_S_) main_v6 main_c
  let main_v8 : FVec F S_ .f32 := subf main_v3 main_v1
  let main_cst_4 : FVec F S_ .f32 := constant S_ .f32 0x3F800001#32
  let main_v9 : FVec F S_ .f32 := mulf main_v8 main_cst_4
  let main_cst_5 : FVec F S_ .f32 := constant S_ .f32 0x370637BD#32
  let main_v10 : IVec S_ 1 := cmpf .ogt main_v9 main_cst_5
  let main_v11 : IVec S_ 1 := andi main_v7 main_v10
  let main_cst_6 : FVec F S_ .f32 := constant S_ .f32 0x7F800000#32
  let main_v12 : FVec F S_ .f32 := (fun x v => Host.reduce FloatOps.minimumf x v reducesTo_S16777216_S_d0 h_S_) main_arg0 main_cst_6
  let main_cst_7 : FVec F S_ .f32 := constant S_ .f32 0x358637BD#32
  let main_v13 : FVec F S_ .f32 := addf main_v12 main_cst_7
  fn_part1 (F := F) main_arg0 main_v11 main_v13
-- ==== Kernel.lean ====
abbrev S16777216 : Shape := ⟨1, ![16777216]⟩
abbrev S131072x128 : Shape := ⟨2, ![131072, 128]⟩
abbrev S64x128 : Shape := ⟨2, ![64, 128]⟩
abbrev S16384x128 : Shape := ⟨2, ![16384, 128]⟩
abbrev S8x128 : Shape := ⟨2, ![8, 128]⟩
abbrev S4x4096x128 : Shape := ⟨3, ![4, 4096, 128]⟩
abbrev S4x128 : Shape := ⟨2, ![4, 128]⟩
abbrev S8x8x128 : Shape := ⟨3, ![8, 8, 128]⟩
abbrev S16 : Shape := ⟨1, ![16]⟩
abbrev S16384 : Shape := ⟨1, ![16384]⟩
abbrev S_ : Shape := ⟨0, ![]⟩
abbrev S1x1x16 : Shape := ⟨3, ![1, 1, 16]⟩

abbrev nBuf : Table → Nat
  | .hbm => 5
  | .local .tc .vmem => 4
  | .local .scVector .vmem => 8
  | _ => 0

abbrev bufTy : (tb : Table) → Fin (nBuf tb) → BufTy
  | .hbm, ⟨0, _⟩ => ⟨S16777216, .f32⟩
  | .hbm, ⟨1, _⟩ => ⟨S131072x128, .f32⟩
  | .hbm, ⟨2, _⟩ => ⟨S64x128, .f32⟩
  | .hbm, ⟨3, _⟩ => ⟨S8x8x128, .f32⟩
  | .hbm, ⟨4, _⟩ => ⟨S16777216, .i32⟩
  | .local .tc .vmem, ⟨0, _⟩ => ⟨S16384x128, .f32⟩
  | .local .tc .vmem, ⟨1, _⟩ => ⟨S16384x128, .f32⟩
  | .local .tc .vmem, ⟨2, _⟩ => ⟨S8x128, .f32⟩
  | .local .tc .vmem, ⟨3, _⟩ => ⟨S8x128, .f32⟩
  | .local .scVector .vmem, ⟨0, _⟩ => ⟨S8x8x128, .f32⟩
  | .local .scVector .vmem, ⟨1, _⟩ => ⟨S16, .f32⟩
  | .local .scVector .vmem, ⟨2, _⟩ => ⟨S16, .f32⟩
  | .local .scVector .vmem, ⟨3, _⟩ => ⟨S16384, .f32⟩
  | .local .scVector .vmem, ⟨4, _⟩ => ⟨S16384, .f32⟩
  | .local .scVector .vmem, ⟨5, _⟩ => ⟨S16384, .f32⟩
  | .local .scVector .vmem, ⟨6, _⟩ => ⟨S16384, .i32⟩
  | .local .scVector .vmem, ⟨7, _⟩ => ⟨S16384, .i32⟩
  | _, _ => ⟨S16777216, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v2_scv : Ref sig .scVector := ⟨.hbm, 3, rfl⟩
abbrev main_v3_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_3 : BitVec 32 := 0#32
  let c8_i32 : BitVec 32 := 8#32
  let v9 : BitVec 32 := Scalar.addi c0_i32_3 c8_i32
  let c1_i32 : BitVec 32 := 1#32
  ⟨c0_i32_3, v9, c1_i32⟩
def k1_off1 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v414 : Index := Scalar.indexCast arg18
  let c0_i32_184 : BitVec 32 := 0#32
  let v415 : Index := Scalar.indexCast c0_i32_184
  let c0_185 : Index := 0#32
  ![v414.toNat, 0, 0]
def k1_off2 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v418 : Index := Scalar.indexCast arg18
  let c4_i32_186 : BitVec 32 := 4#32
  let v419 : Index := Scalar.indexCast c4_i32_186
  let c0_187 : Index := 0#32
  ![v418.toNat, 4, 0]
def k1_off3 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v422 : Index := Scalar.indexCast arg18
  let c0_i32_188 : BitVec 32 := 0#32
  let v423 : Index := Scalar.indexCast c0_i32_188
  let c16 : Index := 16#32
  ![v422.toNat, 0, 16]
def k1_off4 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v426 : Index := Scalar.indexCast arg18
  let c4_i32_189 : BitVec 32 := 4#32
  let v427 : Index := Scalar.indexCast c4_i32_189
  let c16_190 : Index := 16#32
  ![v426.toNat, 4, 16]
def k1_off5 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v430 : Index := Scalar.indexCast arg18
  let c0_i32_191 : BitVec 32 := 0#32
  let v431 : Index := Scalar.indexCast c0_i32_191
  let c32 : Index := 32#32
  ![v430.toNat, 0, 32]
def k1_off6 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v434 : Index := Scalar.indexCast arg18
  let c4_i32_192 : BitVec 32 := 4#32
  let v435 : Index := Scalar.indexCast c4_i32_192
  let c32_193 : Index := 32#32
  ![v434.toNat, 4, 32]
def k1_off7 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v438 : Index := Scalar.indexCast arg18
  let c0_i32_194 : BitVec 32 := 0#32
  let v439 : Index := Scalar.indexCast c0_i32_194
  let c48 : Index := 48#32
  ![v438.toNat, 0, 48]
def k1_off8 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v442 : Index := Scalar.indexCast arg18
  let c4_i32_195 : BitVec 32 := 4#32
  let v443 : Index := Scalar.indexCast c4_i32_195
  let c48_196 : Index := 48#32
  ![v442.toNat, 4, 48]
def k1_off9 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v446 : Index := Scalar.indexCast arg18
  let c0_i32_197 : BitVec 32 := 0#32
  let v447 : Index := Scalar.indexCast c0_i32_197
  let c64 : Index := 64#32
  ![v446.toNat, 0, 64]
def k1_off10 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v450 : Index := Scalar.indexCast arg18
  let c4_i32_198 : BitVec 32 := 4#32
  let v451 : Index := Scalar.indexCast c4_i32_198
  let c64_199 : Index := 64#32
  ![v450.toNat, 4, 64]
def k1_off11 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v454 : Index := Scalar.indexCast arg18
  let c0_i32_200 : BitVec 32 := 0#32
  let v455 : Index := Scalar.indexCast c0_i32_200
  let c80 : Index := 80#32
  ![v454.toNat, 0, 80]
def k1_off12 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v458 : Index := Scalar.indexCast arg18
  let c4_i32_201 : BitVec 32 := 4#32
  let v459 : Index := Scalar.indexCast c4_i32_201
  let c80_202 : Index := 80#32
  ![v458.toNat, 4, 80]
def k1_off13 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v462 : Index := Scalar.indexCast arg18
  let c0_i32_203 : BitVec 32 := 0#32
  let v463 : Index := Scalar.indexCast c0_i32_203
  let c96 : Index := 96#32
  ![v462.toNat, 0, 96]
def k1_off14 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v466 : Index := Scalar.indexCast arg18
  let c4_i32_204 : BitVec 32 := 4#32
  let v467 : Index := Scalar.indexCast c4_i32_204
  let c96_205 : Index := 96#32
  ![v466.toNat, 4, 96]
def k1_off15 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v470 : Index := Scalar.indexCast arg18
  let c0_i32_206 : BitVec 32 := 0#32
  let v471 : Index := Scalar.indexCast c0_i32_206
  let c112 : Index := 112#32
  ![v470.toNat, 0, 112]
def k1_off16 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v474 : Index := Scalar.indexCast arg18
  let c4_i32_207 : BitVec 32 := 4#32
  let v475 : Index := Scalar.indexCast c4_i32_207
  let c112_208 : Index := 112#32
  ![v474.toNat, 4, 112]
def k1_off17 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v478 : Index := Scalar.indexCast arg18
  let c1_i32_209 : BitVec 32 := 1#32
  let v479 : Index := Scalar.indexCast c1_i32_209
  let c0_210 : Index := 0#32
  ![v478.toNat, 1, 0]
def k1_off18 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v482 : Index := Scalar.indexCast arg18
  let c5_i32 : BitVec 32 := 5#32
  let v483 : Index := Scalar.indexCast c5_i32
  let c0_211 : Index := 0#32
  ![v482.toNat, 5, 0]
def k1_off19 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v486 : Index := Scalar.indexCast arg18
  let c1_i32_212 : BitVec 32 := 1#32
  let v487 : Index := Scalar.indexCast c1_i32_212
  let c16_213 : Index := 16#32
  ![v486.toNat, 1, 16]
def k1_off20 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v490 : Index := Scalar.indexCast arg18
  let c5_i32_214 : BitVec 32 := 5#32
  let v491 : Index := Scalar.indexCast c5_i32_214
  let c16_215 : Index := 16#32
  ![v490.toNat, 5, 16]
def k1_off21 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v494 : Index := Scalar.indexCast arg18
  let c1_i32_216 : BitVec 32 := 1#32
  let v495 : Index := Scalar.indexCast c1_i32_216
  let c32_217 : Index := 32#32
  ![v494.toNat, 1, 32]
def k1_off22 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v498 : Index := Scalar.indexCast arg18
  let c5_i32_218 : BitVec 32 := 5#32
  let v499 : Index := Scalar.indexCast c5_i32_218
  let c32_219 : Index := 32#32
  ![v498.toNat, 5, 32]
def k1_off23 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v502 : Index := Scalar.indexCast arg18
  let c1_i32_220 : BitVec 32 := 1#32
  let v503 : Index := Scalar.indexCast c1_i32_220
  let c48_221 : Index := 48#32
  ![v502.toNat, 1, 48]
def k1_off24 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v506 : Index := Scalar.indexCast arg18
  let c5_i32_222 : BitVec 32 := 5#32
  let v507 : Index := Scalar.indexCast c5_i32_222
  let c48_223 : Index := 48#32
  ![v506.toNat, 5, 48]
def k1_off25 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v510 : Index := Scalar.indexCast arg18
  let c1_i32_224 : BitVec 32 := 1#32
  let v511 : Index := Scalar.indexCast c1_i32_224
  let c64_225 : Index := 64#32
  ![v510.toNat, 1, 64]
def k1_off26 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v514 : Index := Scalar.indexCast arg18
  let c5_i32_226 : BitVec 32 := 5#32
  let v515 : Index := Scalar.indexCast c5_i32_226
  let c64_227 : Index := 64#32
  ![v514.toNat, 5, 64]
def k1_off27 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v518 : Index := Scalar.indexCast arg18
  let c1_i32_228 : BitVec 32 := 1#32
  let v519 : Index := Scalar.indexCast c1_i32_228
  let c80_229 : Index := 80#32
  ![v518.toNat, 1, 80]
def k1_off28 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v522 : Index := Scalar.indexCast arg18
  let c5_i32_230 : BitVec 32 := 5#32
  let v523 : Index := Scalar.indexCast c5_i32_230
  let c80_231 : Index := 80#32
  ![v522.toNat, 5, 80]
def k1_off29 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v526 : Index := Scalar.indexCast arg18
  let c1_i32_232 : BitVec 32 := 1#32
  let v527 : Index := Scalar.indexCast c1_i32_232
  let c96_233 : Index := 96#32
  ![v526.toNat, 1, 96]
def k1_off30 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v530 : Index := Scalar.indexCast arg18
  let c5_i32_234 : BitVec 32 := 5#32
  let v531 : Index := Scalar.indexCast c5_i32_234
  let c96_235 : Index := 96#32
  ![v530.toNat, 5, 96]
def k1_off31 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v534 : Index := Scalar.indexCast arg18
  let c1_i32_236 : BitVec 32 := 1#32
  let v535 : Index := Scalar.indexCast c1_i32_236
  let c112_237 : Index := 112#32
  ![v534.toNat, 1, 112]
def k1_off32 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v538 : Index := Scalar.indexCast arg18
  let c5_i32_238 : BitVec 32 := 5#32
  let v539 : Index := Scalar.indexCast c5_i32_238
  let c112_239 : Index := 112#32
  ![v538.toNat, 5, 112]
def k1_off33 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v542 : Index := Scalar.indexCast arg18
  let c2_i32_240 : BitVec 32 := 2#32
  let v543 : Index := Scalar.indexCast c2_i32_240
  let c0_241 : Index := 0#32
  ![v542.toNat, 2, 0]
def k1_off34 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v546 : Index := Scalar.indexCast arg18
  let c6_i32 : BitVec 32 := 6#32
  let v547 : Index := Scalar.indexCast c6_i32
  let c0_242 : Index := 0#32
  ![v546.toNat, 6, 0]
def k1_off35 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v550 : Index := Scalar.indexCast arg18
  let c2_i32_243 : BitVec 32 := 2#32
  let v551 : Index := Scalar.indexCast c2_i32_243
  let c16_244 : Index := 16#32
  ![v550.toNat, 2, 16]
def k1_off36 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v554 : Index := Scalar.indexCast arg18
  let c6_i32_245 : BitVec 32 := 6#32
  let v555 : Index := Scalar.indexCast c6_i32_245
  let c16_246 : Index := 16#32
  ![v554.toNat, 6, 16]
def k1_off37 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v558 : Index := Scalar.indexCast arg18
  let c2_i32_247 : BitVec 32 := 2#32
  let v559 : Index := Scalar.indexCast c2_i32_247
  let c32_248 : Index := 32#32
  ![v558.toNat, 2, 32]
def k1_off38 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v562 : Index := Scalar.indexCast arg18
  let c6_i32_249 : BitVec 32 := 6#32
  let v563 : Index := Scalar.indexCast c6_i32_249
  let c32_250 : Index := 32#32
  ![v562.toNat, 6, 32]
def k1_off39 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v566 : Index := Scalar.indexCast arg18
  let c2_i32_251 : BitVec 32 := 2#32
  let v567 : Index := Scalar.indexCast c2_i32_251
  let c48_252 : Index := 48#32
  ![v566.toNat, 2, 48]
def k1_off40 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v570 : Index := Scalar.indexCast arg18
  let c6_i32_253 : BitVec 32 := 6#32
  let v571 : Index := Scalar.indexCast c6_i32_253
  let c48_254 : Index := 48#32
  ![v570.toNat, 6, 48]
def k1_off41 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v574 : Index := Scalar.indexCast arg18
  let c2_i32_255 : BitVec 32 := 2#32
  let v575 : Index := Scalar.indexCast c2_i32_255
  let c64_256 : Index := 64#32
  ![v574.toNat, 2, 64]
def k1_off42 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v578 : Index := Scalar.indexCast arg18
  let c6_i32_257 : BitVec 32 := 6#32
  let v579 : Index := Scalar.indexCast c6_i32_257
  let c64_258 : Index := 64#32
  ![v578.toNat, 6, 64]
def k1_off43 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v582 : Index := Scalar.indexCast arg18
  let c2_i32_259 : BitVec 32 := 2#32
  let v583 : Index := Scalar.indexCast c2_i32_259
  let c80_260 : Index := 80#32
  ![v582.toNat, 2, 80]
def k1_off44 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v586 : Index := Scalar.indexCast arg18
  let c6_i32_261 : BitVec 32 := 6#32
  let v587 : Index := Scalar.indexCast c6_i32_261
  let c80_262 : Index := 80#32
  ![v586.toNat, 6, 80]
def k1_off45 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v590 : Index := Scalar.indexCast arg18
  let c2_i32_263 : BitVec 32 := 2#32
  let v591 : Index := Scalar.indexCast c2_i32_263
  let c96_264 : Index := 96#32
  ![v590.toNat, 2, 96]
def k1_off46 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v594 : Index := Scalar.indexCast arg18
  let c6_i32_265 : BitVec 32 := 6#32
  let v595 : Index := Scalar.indexCast c6_i32_265
  let c96_266 : Index := 96#32
  ![v594.toNat, 6, 96]
def k1_off47 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v598 : Index := Scalar.indexCast arg18
  let c2_i32_267 : BitVec 32 := 2#32
  let v599 : Index := Scalar.indexCast c2_i32_267
  let c112_268 : Index := 112#32
  ![v598.toNat, 2, 112]
def k1_off48 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v602 : Index := Scalar.indexCast arg18
  let c6_i32_269 : BitVec 32 := 6#32
  let v603 : Index := Scalar.indexCast c6_i32_269
  let c112_270 : Index := 112#32
  ![v602.toNat, 6, 112]
def k1_off49 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v606 : Index := Scalar.indexCast arg18
  let c3_i32 : BitVec 32 := 3#32
  let v607 : Index := Scalar.indexCast c3_i32
  let c0_271 : Index := 0#32
  ![v606.toNat, 3, 0]
def k1_off50 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v610 : Index := Scalar.indexCast arg18
  let c7_i32 : BitVec 32 := 7#32
  let v611 : Index := Scalar.indexCast c7_i32
  let c0_272 : Index := 0#32
  ![v610.toNat, 7, 0]
def k1_off51 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v614 : Index := Scalar.indexCast arg18
  let c3_i32_273 : BitVec 32 := 3#32
  let v615 : Index := Scalar.indexCast c3_i32_273
  let c16_274 : Index := 16#32
  ![v614.toNat, 3, 16]
def k1_off52 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v618 : Index := Scalar.indexCast arg18
  let c7_i32_275 : BitVec 32 := 7#32
  let v619 : Index := Scalar.indexCast c7_i32_275
  let c16_276 : Index := 16#32
  ![v618.toNat, 7, 16]
def k1_off53 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v622 : Index := Scalar.indexCast arg18
  let c3_i32_277 : BitVec 32 := 3#32
  let v623 : Index := Scalar.indexCast c3_i32_277
  let c32_278 : Index := 32#32
  ![v622.toNat, 3, 32]
def k1_off54 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v626 : Index := Scalar.indexCast arg18
  let c7_i32_279 : BitVec 32 := 7#32
  let v627 : Index := Scalar.indexCast c7_i32_279
  let c32_280 : Index := 32#32
  ![v626.toNat, 7, 32]
def k1_off55 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v630 : Index := Scalar.indexCast arg18
  let c3_i32_281 : BitVec 32 := 3#32
  let v631 : Index := Scalar.indexCast c3_i32_281
  let c48_282 : Index := 48#32
  ![v630.toNat, 3, 48]
def k1_off56 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v634 : Index := Scalar.indexCast arg18
  let c7_i32_283 : BitVec 32 := 7#32
  let v635 : Index := Scalar.indexCast c7_i32_283
  let c48_284 : Index := 48#32
  ![v634.toNat, 7, 48]
def k1_off57 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v638 : Index := Scalar.indexCast arg18
  let c3_i32_285 : BitVec 32 := 3#32
  let v639 : Index := Scalar.indexCast c3_i32_285
  let c64_286 : Index := 64#32
  ![v638.toNat, 3, 64]
def k1_off58 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v642 : Index := Scalar.indexCast arg18
  let c7_i32_287 : BitVec 32 := 7#32
  let v643 : Index := Scalar.indexCast c7_i32_287
  let c64_288 : Index := 64#32
  ![v642.toNat, 7, 64]
def k1_off59 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v646 : Index := Scalar.indexCast arg18
  let c3_i32_289 : BitVec 32 := 3#32
  let v647 : Index := Scalar.indexCast c3_i32_289
  let c80_290 : Index := 80#32
  ![v646.toNat, 3, 80]
def k1_off60 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v650 : Index := Scalar.indexCast arg18
  let c7_i32_291 : BitVec 32 := 7#32
  let v651 : Index := Scalar.indexCast c7_i32_291
  let c80_292 : Index := 80#32
  ![v650.toNat, 7, 80]
def k1_off61 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v654 : Index := Scalar.indexCast arg18
  let c3_i32_293 : BitVec 32 := 3#32
  let v655 : Index := Scalar.indexCast c3_i32_293
  let c96_294 : Index := 96#32
  ![v654.toNat, 3, 96]
def k1_off62 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v658 : Index := Scalar.indexCast arg18
  let c7_i32_295 : BitVec 32 := 7#32
  let v659 : Index := Scalar.indexCast c7_i32_295
  let c96_296 : Index := 96#32
  ![v658.toNat, 7, 96]
def k1_off63 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v662 : Index := Scalar.indexCast arg18
  let c3_i32_297 : BitVec 32 := 3#32
  let v663 : Index := Scalar.indexCast c3_i32_297
  let c112_298 : Index := 112#32
  ![v662.toNat, 3, 112]
def k1_off64 (k1_t1 : Fin k1_t1_loop.trips) : Fin 3 → Nat :=
  let c0_i32_3 : BitVec 32 := 0#32
  let c1_i32 : BitVec 32 := 1#32
  let arg18 : BitVec 32 := Scf.iv c0_i32_3 c1_i32 k1_t1
  let v666 : Index := Scalar.indexCast arg18
  let c7_i32_299 : BitVec 32 := 7#32
  let v667 : Index := Scalar.indexCast c7_i32_299
  let c112_300 : Index := 112#32
  ![v666.toNat, 7, 112]

def k1_chk1 (v15 : IVec S16 32) : Prop :=
  (∀ a x, ((![v15] : Fin 1 → IVec S16 32) a x).toNat < S16.size a)
theorem k1_idx1_inb : ∀ (v15 : IVec S16 32) (k1_hw1 : k1_chk1 v15), ∀ a x, ((![v15] : Fin 1 → IVec S16 32) a x).toNat < S16.size a := fun v15 k1_hw1 => k1_hw1

def k1_chk2 (v19 : IVec S16 32) : Prop :=
  (∀ a x, ((![v19] : Fin 1 → IVec S16 32) a x).toNat < S16.size a)
theorem k1_idx2_inb : ∀ (v19 : IVec S16 32) (k1_hw2 : k1_chk2 v19), ∀ a x, ((![v19] : Fin 1 → IVec S16 32) a x).toNat < S16.size a := fun v19 k1_hw2 => k1_hw2

def k1_chk3 (v25 : IVec S16 32) : Prop :=
  (∀ a x, ((![v25] : Fin 1 → IVec S16 32) a x).toNat < S16.size a)
theorem k1_idx3_inb : ∀ (v25 : IVec S16 32) (k1_hw3 : k1_chk3 v25), ∀ a x, ((![v25] : Fin 1 → IVec S16 32) a x).toNat < S16.size a := fun v25 k1_hw3 => k1_hw3

def k1_chk4 (v29 : IVec S16 32) : Prop :=
  (∀ a x, ((![v29] : Fin 1 → IVec S16 32) a x).toNat < S16.size a)
theorem k1_idx4_inb : ∀ (v29 : IVec S16 32) (k1_hw4 : k1_chk4 v29), ∀ a x, ((![v29] : Fin 1 → IVec S16 32) a x).toNat < S16.size a := fun v29 k1_hw4 => k1_hw4

def k1_chk5 (v35 : IVec S16 32) : Prop :=
  (∀ a x, ((![v35] : Fin 1 → IVec S16 32) a x).toNat < S16.size a)
theorem k1_idx5_inb : ∀ (v35 : IVec S16 32) (k1_hw5 : k1_chk5 v35), ∀ a x, ((![v35] : Fin 1 → IVec S16 32) a x).toNat < S16.size a := fun v35 k1_hw5 => k1_hw5

def k1_chk6 (v39 : IVec S16 32) : Prop :=
  (∀ a x, ((![v39] : Fin 1 → IVec S16 32) a x).toNat < S16.size a)
theorem k1_idx6_inb : ∀ (v39 : IVec S16 32) (k1_hw6 : k1_chk6 v39), ∀ a x, ((![v39] : Fin 1 → IVec S16 32) a x).toNat < S16.size a := fun v39 k1_hw6 => k1_hw6

def k1_chk7 (v45 : IVec S16 32) : Prop :=
  (∀ a x, ((![v45] : Fin 1 → IVec S16 32) a x).toNat < S16.size a)
theorem k1_idx7_inb : ∀ (v45 : IVec S16 32) (k1_hw7 : k1_chk7 v45), ∀ a x, ((![v45] : Fin 1 → IVec S16 32) a x).toNat < S16.size a := fun v45 k1_hw7 => k1_hw7

def k1_chk8 (v49 : IVec S16 32) : Prop :=
  (∀ a x, ((![v49] : Fin 1 → IVec S16 32) a x).toNat < S16.size a)
theorem k1_idx8_inb : ∀ (v49 : IVec S16 32) (k1_hw8 : k1_chk8 v49), ∀ a x, ((![v49] : Fin 1 → IVec S16 32) a x).toNat < S16.size a := fun v49 k1_hw8 => k1_hw8
def k1_off65 (i : grid1.Coords) (c0_i32_24 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v62 : BitVec 32 := Scalar.addi v2 c0_i32_24
  ![v62.toNat]
@[reducible] def k1_t2_loop : Scf.Loop 32 :=
  let c0_i32_25 : BitVec 32 := 0#32
  let c1024_i32 : BitVec 32 := 1024#32
  let v73 : BitVec 32 := Scalar.addi c0_i32_25 c1024_i32
  let c1_i32_26 : BitVec 32 := 1#32
  ⟨c0_i32_25, v73, c1_i32_26⟩
def k1_off66 (k1_t2 : Fin k1_t2_loop.trips) : Fin 1 → Nat :=
  let c0_i32_184 : BitVec 32 := 0#32
  let c0_i32_25 : BitVec 32 := 0#32
  let c1_i32_26 : BitVec 32 := 1#32
  let arg18 : BitVec 32 := Scf.iv c0_i32_25 c1_i32_26 k1_t2
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t3_loop : Scf.Loop 32 :=
  let c0_i32_29 : BitVec 32 := 0#32
  let c1024_i32_30 : BitVec 32 := 1024#32
  let v82 : BitVec 32 := Scalar.addi c0_i32_29 c1024_i32_30
  let c1_i32_31 : BitVec 32 := 1#32
  ⟨c0_i32_29, v82, c1_i32_31⟩
def k1_off67 (k1_t3 : Fin k1_t3_loop.trips) : Fin 1 → Nat :=
  let c0_i32_184 : BitVec 32 := 0#32
  let c0_i32_29 : BitVec 32 := 0#32
  let c1_i32_31 : BitVec 32 := 1#32
  let arg18 : BitVec 32 := Scf.iv c0_i32_29 c1_i32_31 k1_t3
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t4_loop : Scf.Loop 32 :=
  let c0_i32_34 : BitVec 32 := 0#32
  let c1024_i32_35 : BitVec 32 := 1024#32
  let v93 : BitVec 32 := Scalar.addi c0_i32_34 c1024_i32_35
  let c1_i32_36 : BitVec 32 := 1#32
  ⟨c0_i32_34, v93, c1_i32_36⟩
def k1_off68 (k1_t4 : Fin k1_t4_loop.trips) : Fin 1 → Nat :=
  let c0_i32_184 : BitVec 32 := 0#32
  let c0_i32_34 : BitVec 32 := 0#32
  let c1_i32_36 : BitVec 32 := 1#32
  let arg18 : BitVec 32 := Scf.iv c0_i32_34 c1_i32_36 k1_t4
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t5_loop : Scf.Loop 32 :=
  let c0_i32_39 : BitVec 32 := 0#32
  let c1024_i32_40 : BitVec 32 := 1024#32
  let v104 : BitVec 32 := Scalar.addi c0_i32_39 c1024_i32_40
  let c1_i32_41 : BitVec 32 := 1#32
  ⟨c0_i32_39, v104, c1_i32_41⟩
def k1_off69 (k1_t5 : Fin k1_t5_loop.trips) : Fin 1 → Nat :=
  let c0_i32_184 : BitVec 32 := 0#32
  let c0_i32_39 : BitVec 32 := 0#32
  let c1_i32_41 : BitVec 32 := 1#32
  let arg18 : BitVec 32 := Scf.iv c0_i32_39 c1_i32_41 k1_t5
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t6_loop : Scf.Loop 32 :=
  let c0_i32_44 : BitVec 32 := 0#32
  let c1024_i32_45 : BitVec 32 := 1024#32
  let v115 : BitVec 32 := Scalar.addi c0_i32_44 c1024_i32_45
  let c1_i32_46 : BitVec 32 := 1#32
  ⟨c0_i32_44, v115, c1_i32_46⟩
def k1_off70 (k1_t6 : Fin k1_t6_loop.trips) : Fin 1 → Nat :=
  let c0_i32_184 : BitVec 32 := 0#32
  let c0_i32_44 : BitVec 32 := 0#32
  let c1_i32_46 : BitVec 32 := 1#32
  let arg18 : BitVec 32 := Scf.iv c0_i32_44 c1_i32_46 k1_t6
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t7_loop : Scf.Loop 32 :=
  let c0_i32_49 : BitVec 32 := 0#32
  let c1024_i32_50 : BitVec 32 := 1024#32
  let v126 : BitVec 32 := Scalar.addi c0_i32_49 c1024_i32_50
  let c1_i32_51 : BitVec 32 := 1#32
  ⟨c0_i32_49, v126, c1_i32_51⟩
def k1_off71 (k1_t7 : Fin k1_t7_loop.trips) : Fin 1 → Nat :=
  let c0_i32_184 : BitVec 32 := 0#32
  let c0_i32_49 : BitVec 32 := 0#32
  let c1_i32_51 : BitVec 32 := 1#32
  let arg18 : BitVec 32 := Scf.iv c0_i32_49 c1_i32_51 k1_t7
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t8_loop : Scf.Loop 32 :=
  let c0_i32_54 : BitVec 32 := 0#32
  let c1024_i32_55 : BitVec 32 := 1024#32
  let v137 : BitVec 32 := Scalar.addi c0_i32_54 c1024_i32_55
  let c1_i32_56 : BitVec 32 := 1#32
  ⟨c0_i32_54, v137, c1_i32_56⟩
def k1_off72 (k1_t8 : Fin k1_t8_loop.trips) : Fin 1 → Nat :=
  let c0_i32_184 : BitVec 32 := 0#32
  let c0_i32_54 : BitVec 32 := 0#32
  let c1_i32_56 : BitVec 32 := 1#32
  let arg18 : BitVec 32 := Scf.iv c0_i32_54 c1_i32_56 k1_t8
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t9_loop : Scf.Loop 32 :=
  let c0_i32_59 : BitVec 32 := 0#32
  let c1024_i32_60 : BitVec 32 := 1024#32
  let v148 : BitVec 32 := Scalar.addi c0_i32_59 c1024_i32_60
  let c1_i32_61 : BitVec 32 := 1#32
  ⟨c0_i32_59, v148, c1_i32_61⟩
def k1_off73 (k1_t9 : Fin k1_t9_loop.trips) : Fin 1 → Nat :=
  let c0_i32_184 : BitVec 32 := 0#32
  let c0_i32_59 : BitVec 32 := 0#32
  let c1_i32_61 : BitVec 32 := 1#32
  let arg18 : BitVec 32 := Scf.iv c0_i32_59 c1_i32_61 k1_t9
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t10_loop : Scf.Loop 32 :=
  let c0_i32_64 : BitVec 32 := 0#32
  let c1024_i32_65 : BitVec 32 := 1024#32
  let v159 : BitVec 32 := Scalar.addi c0_i32_64 c1024_i32_65
  let c1_i32_66 : BitVec 32 := 1#32
  ⟨c0_i32_64, v159, c1_i32_66⟩
def k1_off74 (k1_t10 : Fin k1_t10_loop.trips) : Fin 1 → Nat :=
  let c0_i32_184 : BitVec 32 := 0#32
  let c0_i32_64 : BitVec 32 := 0#32
  let c1_i32_66 : BitVec 32 := 1#32
  let arg18 : BitVec 32 := Scf.iv c0_i32_64 c1_i32_66 k1_t10
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t11_loop : Scf.Loop 32 :=
  let c0_i32_69 : BitVec 32 := 0#32
  let c1024_i32_70 : BitVec 32 := 1024#32
  let v170 : BitVec 32 := Scalar.addi c0_i32_69 c1024_i32_70
  let c1_i32_71 : BitVec 32 := 1#32
  ⟨c0_i32_69, v170, c1_i32_71⟩
def k1_off75 (k1_t11 : Fin k1_t11_loop.trips) : Fin 1 → Nat :=
  let c0_i32_184 : BitVec 32 := 0#32
  let c0_i32_69 : BitVec 32 := 0#32
  let c1_i32_71 : BitVec 32 := 1#32
  let arg18 : BitVec 32 := Scf.iv c0_i32_69 c1_i32_71 k1_t11
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t12_loop : Scf.Loop 32 :=
  let c0_i32_74 : BitVec 32 := 0#32
  let c1024_i32_75 : BitVec 32 := 1024#32
  let v181 : BitVec 32 := Scalar.addi c0_i32_74 c1024_i32_75
  let c1_i32_76 : BitVec 32 := 1#32
  ⟨c0_i32_74, v181, c1_i32_76⟩
def k1_off76 (k1_t12 : Fin k1_t12_loop.trips) : Fin 1 → Nat :=
  let c0_i32_184 : BitVec 32 := 0#32
  let c0_i32_74 : BitVec 32 := 0#32
  let c1_i32_76 : BitVec 32 := 1#32
  let arg18 : BitVec 32 := Scf.iv c0_i32_74 c1_i32_76 k1_t12
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t13_loop : Scf.Loop 32 :=
  let c0_i32_79 : BitVec 32 := 0#32
  let c1024_i32_80 : BitVec 32 := 1024#32
  let v192 : BitVec 32 := Scalar.addi c0_i32_79 c1024_i32_80
  let c1_i32_81 : BitVec 32 := 1#32
  ⟨c0_i32_79, v192, c1_i32_81⟩
def k1_off77 (k1_t13 : Fin k1_t13_loop.trips) : Fin 1 → Nat :=
  let c0_i32_184 : BitVec 32 := 0#32
  let c0_i32_79 : BitVec 32 := 0#32
  let c1_i32_81 : BitVec 32 := 1#32
  let arg18 : BitVec 32 := Scf.iv c0_i32_79 c1_i32_81 k1_t13
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t14_loop : Scf.Loop 32 :=
  let c0_i32_84 : BitVec 32 := 0#32
  let c1024_i32_85 : BitVec 32 := 1024#32
  let v203 : BitVec 32 := Scalar.addi c0_i32_84 c1024_i32_85
  let c1_i32_86 : BitVec 32 := 1#32
  ⟨c0_i32_84, v203, c1_i32_86⟩
def k1_off78 (k1_t14 : Fin k1_t14_loop.trips) : Fin 1 → Nat :=
  let c0_i32_184 : BitVec 32 := 0#32
  let c0_i32_84 : BitVec 32 := 0#32
  let c1_i32_86 : BitVec 32 := 1#32
  let arg18 : BitVec 32 := Scf.iv c0_i32_84 c1_i32_86 k1_t14
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t15_loop : Scf.Loop 32 :=
  let c0_i32_89 : BitVec 32 := 0#32
  let c1024_i32_90 : BitVec 32 := 1024#32
  let v214 : BitVec 32 := Scalar.addi c0_i32_89 c1024_i32_90
  let c1_i32_91 : BitVec 32 := 1#32
  ⟨c0_i32_89, v214, c1_i32_91⟩
def k1_off79 (k1_t15 : Fin k1_t15_loop.trips) : Fin 1 → Nat :=
  let c0_i32_184 : BitVec 32 := 0#32
  let c0_i32_89 : BitVec 32 := 0#32
  let c1_i32_91 : BitVec 32 := 1#32
  let arg18 : BitVec 32 := Scf.iv c0_i32_89 c1_i32_91 k1_t15
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t16_loop : Scf.Loop 32 :=
  let c0_i32_94 : BitVec 32 := 0#32
  let c1024_i32_95 : BitVec 32 := 1024#32
  let v225 : BitVec 32 := Scalar.addi c0_i32_94 c1024_i32_95
  let c1_i32_96 : BitVec 32 := 1#32
  ⟨c0_i32_94, v225, c1_i32_96⟩
def k1_off80 (k1_t16 : Fin k1_t16_loop.trips) : Fin 1 → Nat :=
  let c0_i32_184 : BitVec 32 := 0#32
  let c0_i32_94 : BitVec 32 := 0#32
  let c1_i32_96 : BitVec 32 := 1#32
  let arg18 : BitVec 32 := Scf.iv c0_i32_94 c1_i32_96 k1_t16
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t17_loop : Scf.Loop 32 :=
  let c0_i32_99 : BitVec 32 := 0#32
  let c1024_i32_100 : BitVec 32 := 1024#32
  let v236 : BitVec 32 := Scalar.addi c0_i32_99 c1024_i32_100
  let c1_i32_101 : BitVec 32 := 1#32
  ⟨c0_i32_99, v236, c1_i32_101⟩
def k1_off81 (k1_t17 : Fin k1_t17_loop.trips) : Fin 1 → Nat :=
  let c0_i32_184 : BitVec 32 := 0#32
  let c0_i32_99 : BitVec 32 := 0#32
  let c1_i32_101 : BitVec 32 := 1#32
  let arg18 : BitVec 32 := Scf.iv c0_i32_99 c1_i32_101 k1_t17
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t18_loop : Scf.Loop 32 :=
  let c0_i32_104 : BitVec 32 := 0#32
  let c1024_i32_105 : BitVec 32 := 1024#32
  let v247 : BitVec 32 := Scalar.addi c0_i32_104 c1024_i32_105
  let c1_i32_106 : BitVec 32 := 1#32
  ⟨c0_i32_104, v247, c1_i32_106⟩
def k1_off82 (k1_t18 : Fin k1_t18_loop.trips) : Fin 1 → Nat :=
  let c0_i32_184 : BitVec 32 := 0#32
  let c0_i32_104 : BitVec 32 := 0#32
  let c1_i32_106 : BitVec 32 := 1#32
  let arg18 : BitVec 32 := Scf.iv c0_i32_104 c1_i32_106 k1_t18
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t19_loop : Scf.Loop 32 :=
  let c0_i32_109 : BitVec 32 := 0#32
  let c1024_i32_110 : BitVec 32 := 1024#32
  let v258 : BitVec 32 := Scalar.addi c0_i32_109 c1024_i32_110
  let c1_i32_111 : BitVec 32 := 1#32
  ⟨c0_i32_109, v258, c1_i32_111⟩
def k1_off83 (k1_t19 : Fin k1_t19_loop.trips) : Fin 1 → Nat :=
  let c0_i32_184 : BitVec 32 := 0#32
  let c0_i32_109 : BitVec 32 := 0#32
  let c1_i32_111 : BitVec 32 := 1#32
  let arg18 : BitVec 32 := Scf.iv c0_i32_109 c1_i32_111 k1_t19
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t20_loop : Scf.Loop 32 :=
  let c0_i32_114 : BitVec 32 := 0#32
  let c1024_i32_115 : BitVec 32 := 1024#32
  let v269 : BitVec 32 := Scalar.addi c0_i32_114 c1024_i32_115
  let c1_i32_116 : BitVec 32 := 1#32
  ⟨c0_i32_114, v269, c1_i32_116⟩
def k1_off84 (k1_t20 : Fin k1_t20_loop.trips) : Fin 1 → Nat :=
  let c0_i32_184 : BitVec 32 := 0#32
  let c0_i32_114 : BitVec 32 := 0#32
  let c1_i32_116 : BitVec 32 := 1#32
  let arg18 : BitVec 32 := Scf.iv c0_i32_114 c1_i32_116 k1_t20
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t21_loop : Scf.Loop 32 :=
  let c0_i32_119 : BitVec 32 := 0#32
  let c1024_i32_120 : BitVec 32 := 1024#32
  let v280 : BitVec 32 := Scalar.addi c0_i32_119 c1024_i32_120
  let c1_i32_121 : BitVec 32 := 1#32
  ⟨c0_i32_119, v280, c1_i32_121⟩
def k1_off85 (k1_t21 : Fin k1_t21_loop.trips) : Fin 1 → Nat :=
  let c0_i32_184 : BitVec 32 := 0#32
  let c0_i32_119 : BitVec 32 := 0#32
  let c1_i32_121 : BitVec 32 := 1#32
  let arg18 : BitVec 32 := Scf.iv c0_i32_119 c1_i32_121 k1_t21
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t22_loop : Scf.Loop 32 :=
  let c0_i32_124 : BitVec 32 := 0#32
  let c1024_i32_125 : BitVec 32 := 1024#32
  let v291 : BitVec 32 := Scalar.addi c0_i32_124 c1024_i32_125
  let c1_i32_126 : BitVec 32 := 1#32
  ⟨c0_i32_124, v291, c1_i32_126⟩
def k1_off86 (k1_t22 : Fin k1_t22_loop.trips) : Fin 1 → Nat :=
  let c0_i32_184 : BitVec 32 := 0#32
  let c0_i32_124 : BitVec 32 := 0#32
  let c1_i32_126 : BitVec 32 := 1#32
  let arg18 : BitVec 32 := Scf.iv c0_i32_124 c1_i32_126 k1_t22
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t23_loop : Scf.Loop 32 :=
  let c0_i32_129 : BitVec 32 := 0#32
  let c1024_i32_130 : BitVec 32 := 1024#32
  let v302 : BitVec 32 := Scalar.addi c0_i32_129 c1024_i32_130
  let c1_i32_131 : BitVec 32 := 1#32
  ⟨c0_i32_129, v302, c1_i32_131⟩
def k1_off87 (k1_t23 : Fin k1_t23_loop.trips) : Fin 1 → Nat :=
  let c0_i32_184 : BitVec 32 := 0#32
  let c0_i32_129 : BitVec 32 := 0#32
  let c1_i32_131 : BitVec 32 := 1#32
  let arg18 : BitVec 32 := Scf.iv c0_i32_129 c1_i32_131 k1_t23
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t24_loop : Scf.Loop 32 :=
  let c0_i32_134 : BitVec 32 := 0#32
  let c1024_i32_135 : BitVec 32 := 1024#32
  let v313 : BitVec 32 := Scalar.addi c0_i32_134 c1024_i32_135
  let c1_i32_136 : BitVec 32 := 1#32
  ⟨c0_i32_134, v313, c1_i32_136⟩
def k1_off88 (k1_t24 : Fin k1_t24_loop.trips) : Fin 1 → Nat :=
  let c0_i32_184 : BitVec 32 := 0#32
  let c0_i32_134 : BitVec 32 := 0#32
  let c1_i32_136 : BitVec 32 := 1#32
  let arg18 : BitVec 32 := Scf.iv c0_i32_134 c1_i32_136 k1_t24
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t25_loop : Scf.Loop 32 :=
  let c0_i32_139 : BitVec 32 := 0#32
  let c1024_i32_140 : BitVec 32 := 1024#32
  let v324 : BitVec 32 := Scalar.addi c0_i32_139 c1024_i32_140
  let c1_i32_141 : BitVec 32 := 1#32
  ⟨c0_i32_139, v324, c1_i32_141⟩
def k1_off89 (k1_t25 : Fin k1_t25_loop.trips) : Fin 1 → Nat :=
  let c0_i32_184 : BitVec 32 := 0#32
  let c0_i32_139 : BitVec 32 := 0#32
  let c1_i32_141 : BitVec 32 := 1#32
  let arg18 : BitVec 32 := Scf.iv c0_i32_139 c1_i32_141 k1_t25
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t26_loop : Scf.Loop 32 :=
  let c0_i32_144 : BitVec 32 := 0#32
  let c1024_i32_145 : BitVec 32 := 1024#32
  let v335 : BitVec 32 := Scalar.addi c0_i32_144 c1024_i32_145
  let c1_i32_146 : BitVec 32 := 1#32
  ⟨c0_i32_144, v335, c1_i32_146⟩
def k1_off90 (k1_t26 : Fin k1_t26_loop.trips) : Fin 1 → Nat :=
  let c0_i32_184 : BitVec 32 := 0#32
  let c0_i32_144 : BitVec 32 := 0#32
  let c1_i32_146 : BitVec 32 := 1#32
  let arg18 : BitVec 32 := Scf.iv c0_i32_144 c1_i32_146 k1_t26
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t27_loop : Scf.Loop 32 :=
  let c0_i32_149 : BitVec 32 := 0#32
  let c1024_i32_150 : BitVec 32 := 1024#32
  let v346 : BitVec 32 := Scalar.addi c0_i32_149 c1024_i32_150
  let c1_i32_151 : BitVec 32 := 1#32
  ⟨c0_i32_149, v346, c1_i32_151⟩
def k1_off91 (k1_t27 : Fin k1_t27_loop.trips) : Fin 1 → Nat :=
  let c0_i32_184 : BitVec 32 := 0#32
  let c0_i32_149 : BitVec 32 := 0#32
  let c1_i32_151 : BitVec 32 := 1#32
  let arg18 : BitVec 32 := Scf.iv c0_i32_149 c1_i32_151 k1_t27
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t28_loop : Scf.Loop 32 :=
  let c0_i32_154 : BitVec 32 := 0#32
  let c1024_i32_155 : BitVec 32 := 1024#32
  let v357 : BitVec 32 := Scalar.addi c0_i32_154 c1024_i32_155
  let c1_i32_156 : BitVec 32 := 1#32
  ⟨c0_i32_154, v357, c1_i32_156⟩
def k1_off92 (k1_t28 : Fin k1_t28_loop.trips) : Fin 1 → Nat :=
  let c0_i32_184 : BitVec 32 := 0#32
  let c0_i32_154 : BitVec 32 := 0#32
  let c1_i32_156 : BitVec 32 := 1#32
  let arg18 : BitVec 32 := Scf.iv c0_i32_154 c1_i32_156 k1_t28
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t29_loop : Scf.Loop 32 :=
  let c0_i32_159 : BitVec 32 := 0#32
  let c1024_i32_160 : BitVec 32 := 1024#32
  let v368 : BitVec 32 := Scalar.addi c0_i32_159 c1024_i32_160
  let c1_i32_161 : BitVec 32 := 1#32
  ⟨c0_i32_159, v368, c1_i32_161⟩
def k1_off93 (k1_t29 : Fin k1_t29_loop.trips) : Fin 1 → Nat :=
  let c0_i32_184 : BitVec 32 := 0#32
  let c0_i32_159 : BitVec 32 := 0#32
  let c1_i32_161 : BitVec 32 := 1#32
  let arg18 : BitVec 32 := Scf.iv c0_i32_159 c1_i32_161 k1_t29
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t30_loop : Scf.Loop 32 :=
  let c0_i32_164 : BitVec 32 := 0#32
  let c1024_i32_165 : BitVec 32 := 1024#32
  let v379 : BitVec 32 := Scalar.addi c0_i32_164 c1024_i32_165
  let c1_i32_166 : BitVec 32 := 1#32
  ⟨c0_i32_164, v379, c1_i32_166⟩
def k1_off94 (k1_t30 : Fin k1_t30_loop.trips) : Fin 1 → Nat :=
  let c0_i32_184 : BitVec 32 := 0#32
  let c0_i32_164 : BitVec 32 := 0#32
  let c1_i32_166 : BitVec 32 := 1#32
  let arg18 : BitVec 32 := Scf.iv c0_i32_164 c1_i32_166 k1_t30
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t31_loop : Scf.Loop 32 :=
  let c0_i32_169 : BitVec 32 := 0#32
  let c1024_i32_170 : BitVec 32 := 1024#32
  let v390 : BitVec 32 := Scalar.addi c0_i32_169 c1024_i32_170
  let c1_i32_171 : BitVec 32 := 1#32
  ⟨c0_i32_169, v390, c1_i32_171⟩
def k1_off95 (k1_t31 : Fin k1_t31_loop.trips) : Fin 1 → Nat :=
  let c0_i32_184 : BitVec 32 := 0#32
  let c0_i32_169 : BitVec 32 := 0#32
  let c1_i32_171 : BitVec 32 := 1#32
  let arg18 : BitVec 32 := Scf.iv c0_i32_169 c1_i32_171 k1_t31
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t32_loop : Scf.Loop 32 :=
  let c0_i32_174 : BitVec 32 := 0#32
  let c1024_i32_175 : BitVec 32 := 1024#32
  let v398 : BitVec 32 := Scalar.addi c0_i32_174 c1024_i32_175
  let c1_i32_176 : BitVec 32 := 1#32
  ⟨c0_i32_174, v398, c1_i32_176⟩
def k1_off96 (k1_t32 : Fin k1_t32_loop.trips) : Fin 1 → Nat :=
  let c0_i32_184 : BitVec 32 := 0#32
  let c0_i32_174 : BitVec 32 := 0#32
  let c1_i32_176 : BitVec 32 := 1#32
  let arg18 : BitVec 32 := Scf.iv c0_i32_174 c1_i32_176 k1_t32
  let c16_i32 : BitVec 32 := 16#32
  let v414 : BitVec 32 := Scalar.muli arg18 c16_i32
  let v415 : BitVec 32 := Scalar.addi c0_i32_184 v414
  let v416 : Index := Scalar.indexCast v415
  ![v416.toNat]
@[reducible] def k1_t33_loop : Scf.Loop 32 :=
  let c0_i32_179 : BitVec 32 := 0#32
  let c1024_i32_180 : BitVec 32 := 1024#32
  let v406 : BitVec 32 := Scalar.addi c0_i32_179 c1024_i32_180
  let c1_i32_181 : BitVec 32 := 1#32
  ⟨c0_i32_179, v406, c1_i32_181⟩
def k1_off97 (k1_t33 : Fin k1_t33_loop.trips) : Fin 1 → Nat :=
  let c0_i32_184 : BitVec 32 := 0#32
  let c0_i32_179 : BitVec 32 := 0#32
  let c1_i32_181 : BitVec 32 := 1#32
  let arg18 : BitVec 32 := Scf.iv c0_i32_179 c1_i32_181 k1_t33
  let c16_i32 : BitVec 32 := 16#32
  let v414 : BitVec 32 := Scalar.muli arg18 c16_i32
  let v415 : BitVec 32 := Scalar.addi c0_i32_184 v414
  let v416 : Index := Scalar.indexCast v415
  ![v416.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S_ : Shape := ⟨0, ![]⟩
abbrev S8 : Shape := ⟨1, ![8]⟩
abbrev S1 : Shape := ⟨1, ![1]⟩
abbrev S9 : Shape := ⟨1, ![9]⟩
abbrev S16777216x1 : Shape := ⟨2, ![16777216, 1]⟩
abbrev S1x9 : Shape := ⟨2, ![1, 9]⟩
abbrev S16777216x9 : Shape := ⟨2, ![16777216, 9]⟩

abbrev nBuf : Space → Nat
  | .hbm => 36
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S1, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S1, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S1, .f32⟩
  | .hbm, ⟨27, _⟩ => ⟨S9, .f32⟩
  | .hbm, ⟨28, _⟩ => ⟨S16777216x1, .f32⟩
  | .hbm, ⟨29, _⟩ => ⟨S1x9, .f32⟩
  | .hbm, ⟨30, _⟩ => ⟨S16777216x9, .f32⟩
  | .hbm, ⟨31, _⟩ => ⟨S16777216x9, .f32⟩
  | .hbm, ⟨32, _⟩ => ⟨S16777216x9, .i1⟩
  | .hbm, ⟨33, _⟩ => ⟨S16777216x9, .i32⟩
  | .hbm, ⟨34, _⟩ => ⟨S_, .i32⟩
  | .hbm, ⟨35, _⟩ => ⟨S16777216, .i32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_call0_cst_0 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩

abbrev nD : Nat := 1
abbrev τ : Topo := Topo.v7x

variable {F : FTy → Type} [FloatOps F]
-- ==== Proof.TileProg.lean ====
/-
  The vector subcore's program, restated: after the limits are known, the thirty-two chunks of a tile are one
  recursive program. Chunk `c` waits for its input, starts the fetch of chunk `c + 2`, waits for the write-out that
  last used its output buffer, labels 1024 groups of sixteen elements, and starts its own write-out.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Kern

open Cert.KernelIdeal Cert.KernelIdeal.Gen
open Idealize.ShloMosaic
open Idealize.ShloMosaic.SparseCore (S V T)
open Idealize.SL Idealize.SL.Sem

variable {F : FTy → Type} [FloatOps F]

/-! ## The tile's operands -/

/-- The input array, all of it. -/
abbrev xV : Memref sig .scVector .hbm S16777216 .f32 := Memref.whole main_arg0_scv
/-- The minima and maxima the TensorCore left. -/
abbrev mmV : Memref sig .scVector .hbm S8x8x128 .f32 := Memref.whole main_v2_scv
/-- The labels, all of them. -/
abbrev oV : Memref sig .scVector .hbm S16777216 .i32 := Memref.whole main_v3_scv
/-- The tile's copy of the minima and maxima. -/
abbrev mV : Memref sig .scVector .vmem S8x8x128 .f32 := Memref.whole cc1_scratch0
/-- Sixteen lanes of running minima. -/
abbrev loV : Memref sig .scVector .vmem S16 .f32 := Memref.whole cc1_scratch1
/-- Sixteen lanes of running maxima. -/
abbrev hiV : Memref sig .scVector .vmem S16 .f32 := Memref.whole cc1_scratch2

/-- The buffer chunk `r` is read into: three take turns. -/
def inB (r : ℕ) : Memref sig .scVector .vmem S16384 .f32 :=
  match r % 3 with
  | 0 => Memref.whole cc1_scratch3
  | 1 => Memref.whole cc1_scratch4
  | _ => Memref.whole cc1_scratch5

/-- The buffer chunk `r`'s labels are made in: two take turns. -/
def outB (r : ℕ) : Memref sig .scVector .vmem S16384 .i32 :=
  match r % 2 with
  | 0 => Memref.whole cc1_scratch6
  | _ => Memref.whole cc1_scratch7

/-- The semaphore of chunk `r`'s fetch. -/
def si (r : ℕ) : DmaSems sig S_ :=
  match r % 3 with
  | 0 => cc1_scratch8
  | 1 => cc1_scratch9
  | _ => cc1_scratch10

/-- The semaphore of chunk `r`'s write-out. -/
def so (r : ℕ) : DmaSems sig S_ :=
  match r % 2 with
  | 0 => cc1_scratch11
  | _ => cc1_scratch12

theorem inB_whole (r : ℕ) : (inB r).IsWhole := by
  unfold inB; split <;> exact Memref.isWhole_whole _

theorem outB_whole (r : ℕ) : (outB r).IsWhole := by
  unfold outB; split <;> exact Memref.isWhole_whole _

/-- Chunk `r` of the tile at `i`, of the input, -/
def xC (i : grid1.Coords) (r : ℕ) : Memref sig .scVector .hbm S16384 .f32 :=
  xV.slice (Rect.unit (s := S16777216) (k1_off65 i (BitVec.ofNat 32 (16384 * (Fin.ofNat 32 r).val))) S16384.size
    (k1_off65_inb i (Fin.ofNat 32 r))) (fun _ => rfl)

/-- and of the labels. -/
def oC (i : grid1.Coords) (r : ℕ) : Memref sig .scVector .hbm S16384 .i32 :=
  oV.slice (Rect.unit (s := S16777216) (k1_off65 i (BitVec.ofNat 32 (16384 * (Fin.ofNat 32 r).val))) S16384.size
    (k1_off65_inb i (Fin.ofNat 32 r))) (fun _ => rfl)

/-! ## The program of the chunks -/

/-- A program of the tile at `i`. -/
abbrev TP (F : FTy → Type) [FloatOps F] (i : grid1.Coords) :=
  Prog (TpuEff nD τ sig (Elt F) Λ₀ (.scVector ((i 0).castLE hcore1) ((i 1).castLE hsub1))) PUnit

/-- Sixteen elements from the `t`-th group on. -/
abbrev grp (t : Fin k1_t2_loop.trips) : Rect S16384 :=
  Rect.unit (s := S16384) (k1_off66 t) S16.size (k1_off66_inb t)

/-- One group of a chunk: label sixteen elements. -/
def labBody (i : grid1.Coords) (r : ℕ) (st bi : FVec F S16 .f32) (t : Fin k1_t2_loop.trips) (_ : Unit) : TP F i := do
  let v : Vec F S16 .f32 ← Prog.lift (.load (inB r) (grp t).toLoadRect (View.loadsAt_vmem h_S16))
  let _w : Vec F S16 .i32 ← Prog.lift (.load (outB r) (grp t).toLoadRect (View.loadsAt_vmem h_S16))
  Prog.lift (.store (outB r) (grp t) (k1_pay1 st bi v) Finset.univ (View.stores_vmem_bits_univ h_S16 rfl) (.inl rfl))
  pure ⟨⟩

/-- Start the fetch of chunk `r`. -/
def fetch (i : grid1.Coords) (r : ℕ) : TP F i :=
  Prog.lift (.enqueueDma (xC i r) (.here (inB r)) (.dma (si r).sem) (View.wordExact_bits rfl) (inB_whole r).wordExact
    ⟨Or.inl rfl, trivial⟩)

/-- Wait for the fetch of chunk `r`. -/
def fetched (i : grid1.Coords) (r : ℕ) : TP F i :=
  Prog.lift (.waitDma2 (si r).sem (xC i r) (inB r) (View.wordExact_bits rfl) (inB_whole r).wordExact)

/-- Start the write-out of chunk `r`. -/
def putOut (i : grid1.Coords) (r : ℕ) : TP F i :=
  Prog.lift (.enqueueDma (outB r) (.here (oC i r)) (.dma (so r).sem) (outB_whole r).wordExact (View.wordExact_bits rfl)
    ⟨Or.inl rfl, trivial⟩)

/-- Wait for the write-out of chunk `r`. -/
def isOut (i : grid1.Coords) (r : ℕ) : TP F i :=
  Prog.lift (.waitDma2 (so r).sem (outB r) (oC i r) (outB_whole r).wordExact (View.wordExact_bits rfl))

/-- The fetch two chunks ahead, where there is one. -/
def ahead (i : grid1.Coords) (r : ℕ) (k : TP F i) : TP F i := if r + 2 < 32 then (do fetch i (r + 2); k) else k

/-- The write-out two chunks back, where there is one. -/
def back (i : grid1.Coords) (r : ℕ) (k : TP F i) : TP F i := if 2 ≤ r then (do isOut i (r - 2); k) else k

/-- Chunk `r`, and then `k`. -/
def chunk (i : grid1.Coords) (st bi : FVec F S16 .f32) (r : ℕ) (k : TP F i) : TP F i := do
  fetched i r
  ahead i r (back i r (do
    Scf.Loop.for k1_t2_loop k1_t2_ok ⟨⟩ (labBody i r st bi)
    putOut i r
    k))

/-- The last `n` chunks, and the two write-outs left. -/
def chain (i : grid1.Coords) (st bi : FVec F S16 .f32) : ℕ → TP F i
  | 0 => do isOut i 30; isOut i 31; pure ⟨⟩
  | n + 1 => chunk i st bi (31 - n) (chain i st bi n)

/-- A program of the tile at `i` that gives a value of type `α`. -/
abbrev TPv (F : FTy → Type) [FloatOps F] (i : grid1.Coords) (α : Type) :=
  Prog (TpuEff nD τ sig (Elt F) Λ₀ (.scVector ((i 0).castLE hcore1) ((i 1).castLE hsub1))) α

/-- The first half of finding the step and the bias: the minima and maxima folded down to sixteen lanes, and the first
    exchanges between lanes. -/
def limits₁ (i : grid1.Coords) :
    TPv F i (Σ' (_ : BitVec 32) (_ : IVec S16 32) (_ : FVec F S16 .f32), FVec F S16 .f32) :=
  k1_part8 i xV (Memref.isWhole_whole _) mmV (Memref.isWhole_whole _) oV (Memref.isWhole_whole _) mV (Memref.isWhole_whole _)
    loV (Memref.isWhole_whole _) hiV (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scoped0

/-- The second half: the exchanges left, and the step and the bias. -/
def limits₂ (i : grid1.Coords) (v2 : BitVec 32) (v11 : IVec S16 32) (v21 v27 : FVec F S16 .f32) :
    TPv F i (Σ' (_ : FVec F S16 .f32), FVec F S16 .f32) :=
  k1_part9 i xV (Memref.isWhole_whole _) mmV (Memref.isWhole_whole _) oV (Memref.isWhole_whole _) mV (Memref.isWhole_whole _)
    loV (Memref.isWhole_whole _) hiV (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scoped0
    v2 v11 v21 v27

/-- What the tile runs, as printed. -/
def printed (i : grid1.Coords) : TP F i :=
  cc1_body i xV (Memref.isWhole_whole _) mmV (Memref.isWhole_whole _) oV (Memref.isWhole_whole _) mV (Memref.isWhole_whole _)
    loV (Memref.isWhole_whole _) hiV (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scoped0

/-- What the tile runs, by chunks. -/
def tileProg (i : grid1.Coords) : TP F i := do
  let ⟨v2, v11, v21, v27⟩ ← limits₁ (F := F) i
  let ⟨st, bi⟩ ← limits₂ (F := F) i v2 v11 v21 v27
  fetch i 0
  fetch i 1
  chain i st bi 32

/-- The printed program is the one by chunks. -/
theorem printed_eq (i : grid1.Coords) : printed (F := F) i = tileProg i := by
  unfold printed tileProg
  rw [cc1_body_eq_skeleton]
  unfold cc1_body_skel
  refine congrArg (fun k => (limits₁ (F := F) i) >>= k) (funext fun a => ?_)
  refine congrArg (fun k => (limits₂ (F := F) i _ _ _ _) >>= k) (funext fun b => ?_)
  rw [k1_part10_eq_skeleton, k1_part11_eq_skeleton, k1_part12_eq_skeleton, k1_part13_eq_skeleton,
    k1_part14_eq_skeleton, k1_part15_eq_skeleton, k1_part16_eq_skeleton, k1_part17_eq_skeleton, k1_part18_eq_skeleton,
    k1_part19_eq_skeleton, k1_part20_eq_skeleton]
  unfold k1_part10_skel k1_part11_skel k1_part12_skel k1_part13_skel k1_part14_skel k1_part15_skel k1_part16_skel
    k1_part17_skel k1_part18_skel k1_part19_skel k1_part20_skel
  simp only [bind_assoc, pure_bind, chain, chunk, ahead, back, Nat.reduceSub, Nat.reduceAdd, Nat.reduceLT, Nat.reduceLeDiff,
    Nat.sub_self, Nat.sub_zero, if_true, if_false, ↓reduceIte]
  rfl

end Cert.Proof.Kern

end
-- ==== Proof.Chunks.lean ====
/-
  A tile's thirty-two chunks, for any float values: what the tile holds between two chunks, and that one chunk takes it
  to the next.
-/
module

public import proofs.«01_k».proof.Proof.TileProg
public import Idealize.ShloMosaic.Lib.Writes
public import Idealize.ShloMosaic.Lib.ReshapeSlab

@[expose] public section

noncomputable section

namespace Cert.Proof.Kern

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

abbrev 𝒱₀ : Variants := Variants.none
/-- The handshakes' rounds. -/
abbrev UH : Type := URounds (GSem nD τ sig) ℕ
/-- Beside them, the rounds of the first pass's pipeline and the copies' counters. -/
abbrev UP : Type := URounds (GSem nD τ sig) Unit
abbrev UU : Type := UH × (UP × Counters)

local notation "𝕄" => MT nD τ sig (HIx 1) (Elt F) ℕ UU ℕ

/-- The input, the minima and maxima, and the labels, as a device's arrays. -/
abbrev xLoc (d : Dev nD) : Loc nD τ sig := (SparseCore.T d).loc main_arg0
abbrev mmLoc (d : Dev nD) : Loc nD τ sig := (SparseCore.T d).loc main_v2
abbrev oLoc (d : Dev nD) : Loc nD τ sig := (SparseCore.T d).loc main_v3

/-- The thread of the tile at `i`. -/
abbrev thr (d : Dev nD) (i : grid1.Coords) : Thread nD τ := V d ((i 0).castLE hcore1) ((i 1).castLE hsub1)

section Tile

variable (d : Dev nD) (i : grid1.Coords)

/-! ## What a chunk's labels are -/

theorem S16_size (a : Fin 1) : S16.size a = 16 := match a with | 0 => rfl

/-- The lane of an element. -/
def lane (y : ℕ) : S16.Idx := fun a => ⟨y % 16, by rw [S16_size]; exact Nat.mod_lt y (by decide)⟩

theorem lane_eq (l : S16.Idx) (n : ℕ) : lane (16 * n + (l 0).val) = l := by
  funext a
  match a with
  | 0 =>
    have h : (l 0).val < 16 := (l 0).isLt.trans_eq (S16_size 0)
    exact Fin.ext (show (16 * n + (l 0).val) % 16 = (l 0).val by omega)

/-- The label of the element `v` in lane `l`. -/
def lab (st bi : FVec F S16 .f32) (v : Elt F .f32) (l : S16.Idx) : Elt F .i32 := k1_pay1 st bi (fun _ => v) l

theorem pay_eq (st bi : FVec F S16 .f32) (v : Vec F S16 .f32) (l : S16.Idx) : k1_pay1 st bi v l = lab st bi (v l) l := rfl

/-- The labels of a chunk. -/
def labC (st bi : FVec F S16 .f32) (w : S16384.Idx → Elt F .f32) : S16384.Idx → Elt F .i32 :=
  fun y => lab st bi (w y) (lane (y 0).val)

/-- The labels of the whole input. -/
def labX (st bi : FVec F S16 .f32) (w : S16777216.Idx → Elt F .f32) : S16777216.Idx → Elt F .i32 :=
  fun y => lab st bi (w y) (lane (y 0).val)

/-! ## What is held -/

/-- The buffer of chunk `r` holds `w`. -/
def inHas (r : ℕ) (w : S16384.Idx → Elt F .f32) : sProp 𝕄 :=
  iprop(∃ f, ⌜(inB r).view.read (Elt F) f = w⌝ ∗ (inB r).view.loc (thr d i) ↦[(inB r).view.set]{fullShare} f)

/-- The output buffer of chunk `r` holds something, -/
def outAny (r : ℕ) : sProp 𝕄 := iprop(∃ f, (outB r).view.loc (thr d i) ↦[(outB r).view.set]{fullShare} f)

/-- and `w`. -/
def outHas (r : ℕ) (w : S16384.Idx → Elt F .i32) : sProp 𝕄 :=
  iprop(∃ f, ⌜(outB r).view.read (Elt F) f = w⌝ ∗ (outB r).view.loc (thr d i) ↦[(outB r).view.set]{fullShare} f)

/-- The first `16 n` labels of chunk `r` are made. -/
def outUpto (r : ℕ) (w : S16384.Idx → Elt F .i32) (n : ℕ) : sProp 𝕄 :=
  iprop(∃ f, ⌜∀ y : S16384.Idx, (y 0).val < 16 * n → (outB r).view.read (Elt F) f y = w y⌝
    ∗ (outB r).view.loc (thr d i) ↦[(outB r).view.set]{fullShare} f)

theorem grp_emb (t : Fin k1_t2_loop.trips) (l : S16.Idx) : (((grp t).emb l) 0).val = 16 * t.val + (l 0).val := by
  show k1_off66 t 0 + 1 * (l 0).val = _
  rw [k1_off66_eq, one_mul]; rfl

/-- Storing one group more: the labels made reach sixteen further. -/
theorem upto_step {sp sp' : Space} (vo : View sig .scVector sp S16384 .i32) (vi : View sig .scVector sp' S16384 .f32)
    (st bi : FVec F S16 .f32) (w : S16384.Idx → Elt F .f32) (f : vi.ty.Contents (Elt F)) (g : vo.ty.Contents (Elt F))
    (t : Fin k1_t2_loop.trips) (hf : vi.read (Elt F) f = w)
    (hg : ∀ y : S16384.Idx, (y 0).val < 16 * t.val → vo.read (Elt F) g y = labC st bi w y)
    (y : S16384.Idx) (hy : (y 0).val < 16 * (t.val + 1)) :
    vo.read (Elt F) ((vo.slice (grp t)).write (Elt F) g (k1_pay1 st bi (vi.readAt (Elt F) (grp t).toLoadRect f)) Finset.univ) y
      = labC st bi w y := by
  by_cases h : (y 0).val < 16 * t.val
  · rw [View.read_slice_write_of_not_mem, hg y h]
    intro hm
    obtain ⟨l, -, rfl⟩ := Finset.mem_map.mp hm
    rw [grp_emb] at h
    omega
  · have hl : (y 0).val - 16 * t.val < 16 := by omega
    obtain ⟨l, rfl⟩ : ∃ l : S16.Idx, y = (grp t).emb l := by
      refine ⟨lane ((y 0).val - 16 * t.val), funext fun a => ?_⟩
      match a with
      | 0 =>
        refine Fin.ext ?_
        rw [grp_emb]
        show _ = 16 * t.val + ((y 0).val - 16 * t.val) % 16
        omega
    rw [View.read_slice_write_emb _ _ _ (Finset.mem_univ l), pay_eq]
    unfold labC
    rw [grp_emb, lane_eq, ← hf]
    rfl

theorem labBody_spec (r : ℕ) (st bi : FVec F S16 .f32) (w : S16384.Idx → Elt F .f32) (t : Fin k1_t2_loop.trips) (u : Unit) :
    iprop(inHas d i r w ∗ outUpto d i r (labC st bi w) t.val)
      ⊢ wp frame (wpE (defs₀ (F := F)) 𝒱₀ (thr d i) none) Set.univ (labBody (F := F) i r st bi t u)
          fun _ => (iprop(inHas d i r w ∗ outUpto d i r (labC st bi w) (t.val + 1)) : sProp 𝕄) := by
  unfold labBody inHas outUpto
  iintro ⟨⟨%f, %hf, Hin⟩, ⟨%g, %hg, Hout⟩⟩
  simp only [Prog.lift, bind, Prog.bind, Pure.pure]
  iapply (wp_load 𝒱₀ (thr d i) none Set.univ (m := inB r) (View.setOn_subset_set _ _)) $$ Hin
  iintro Hin
  iapply (wp_load 𝒱₀ (thr d i) none Set.univ (m := outB r) (View.setOn_subset_set _ _)) $$ Hout
  iintro Hout
  iapply (wp_store 𝒱₀ (thr d i) none Set.univ (m := outB r) (r := grp t)
    (Finset.Subset.trans (Memref.setOn_access_subset_setOn _ _ _) (View.setOn_subset_set _ _))) $$ Hout
  iintro Hout
  rw [wp_ret]
  imodintro
  isplitl [Hin]
  · iexists f; isplitr; · ipureintro; exact hf
    iexact Hin
  iexists _; isplitr
  rotate_left
  · iexact Hout
  ipureintro
  intro y hy
  exact upto_step (outB r).view (inB r).view st bi w f g t hf hg y hy

/-- One chunk's groups: from its input and any output buffer, its labels. -/
theorem loop_spec (r : ℕ) (st bi : FVec F S16 .f32) (w : S16384.Idx → Elt F .f32) (k : Unit → TP F i) (Q : PUnit → sProp 𝕄) :
    iprop(inHas d i r w ∗ outAny d i r)
      ⊢ iprop((iprop(inHas d i r w ∗ outHas d i r (labC st bi w)) -∗ wp frame (wpE (defs₀ (F := F)) 𝒱₀ (thr d i) none) Set.univ (k ⟨⟩) Q)
        -∗ wp frame (wpE (defs₀ (F := F)) 𝒱₀ (thr d i) none) Set.univ
            (Scf.Loop.for k1_t2_loop k1_t2_ok ⟨⟩ (labBody (F := F) i r st bi) >>= k) Q) := by
  have h := Scf.wp_for_bind frame (wpE (defs₀ (F := F)) 𝒱₀ (thr d i) none) Set.univ k1_t2_loop.lb k1_t2_loop.ub k1_t2_loop.st
    k1_t2_ok ⟨⟩ (labBody (F := F) i r st bi) (fun n _ => iprop(inHas d i r w ∗ outUpto d i r (labC st bi w) n))
    (labBody_spec d i r st bi w) (kk := k) (Q := Q)
  iintro ⟨Hin, Hout⟩ Hk
  iapply h $$ [Hin Hout]
  · isplitl [Hin]; · iexact Hin
    unfold outAny outUpto
    icases Hout with ⟨%f, Hout⟩
    iexists f
    isplitr
    · ipureintro; intro y hy; exact absurd hy (by omega)
    · iexact Hout
  · iintro %u ⟨Hin, Hout⟩
    iapply Hk
    isplitl [Hin]; · iexact Hin
    unfold outHas outUpto
    icases Hout with ⟨%f, %hf, Hout⟩
    iexists f
    isplitr
    · ipureintro
      funext y
      refine hf y (Nat.lt_of_lt_of_eq (y 0).isLt ?_)
      decide
    · iexact Hout

/-! ## The copies -/

variable (X : Buf (Elt F) (xLoc d)) (o₀ oF : Buf (Elt F) (oLoc d)) (O : CellTallies nD τ sig (HIx 1)) (W : Waits sig (HIx 1))

/-- Chunk `r` of the input, -/
def xPc (r : ℕ) : sProp 𝕄 := (xC i r).view.loc (thr d i) ↦[(xC i r).view.set]{fullShare} X

/-- and of the labels, at the contents `f`. -/
def oPc (f : Buf (Elt F) (oLoc d)) (r : ℕ) : sProp 𝕄 := (oC i r).view.loc (thr d i) ↦[(oC i r).view.set]{fullShare} f

/-- Chunk `r`'s fetch is under way. -/
def inFly (r : ℕ) : sProp 𝕄 :=
  Flight countersEmb (thr d i) (.dma (si r).sem) (default : HIx 1) (inB r).view.dmaCredit
    iprop(inHas d i r ((xC i r).view.read (Elt F) X) ∗ xPc d i X r)

/-- Chunk `r`'s write-out is under way. -/
def outFly (r : ℕ) : sProp 𝕄 :=
  Flight countersEmb (thr d i) (.dma (so r).sem) (default : HIx 1) (oC i r).view.dmaCredit
    iprop(oPc d i oF r ∗ outAny (F := F) d i r)

/-- The tile owes what it owed at the start, and what it waited for since is at its own index. -/
def owing : sProp 𝕄 := iprop(∃ W', ⌜∀ p ∈ W', p ∈ W ∨ p.2 = none⌝ ∗ owes (thr d i) O W')

theorem fetch_spec (r : ℕ) (k : PUnit → TP F i) (Q : PUnit → sProp 𝕄) :
    iprop(xPc d i X r ∗ (∃ w, inHas d i r w) ∗ semVal (thr d i, .dma (si r).sem) 0)
      ⊢ iprop((inFly d i X r -∗ wp frame (wpE (defs₀ (F := F)) 𝒱₀ (thr d i) none) Set.univ (k ⟨⟩) Q)
        -∗ wp frame (wpE (defs₀ (F := F)) 𝒱₀ (thr d i) none) Set.univ (fetch (F := F) i r >>= k) Q) := by
  unfold xPc inHas
  iintro ⟨Hx, ⟨%w, %f, %hf, Hb⟩, Hs⟩ Hk
  have hne : 0 < (inB r).view.dmaCredit := Nat.pos_of_ne_zero fun h =>
    absurd ((View.amount_eq_zero_iff (inB r).view (.dma (si r).sem)).mp h) (by decide)
  iapply (Transfers.wp_dmaLocal countersEmb 𝒱₀ (thr d i) none (default : HIx 1) (inB r).view.dmaCredit rfl hne (Finset.Subset.refl _)) $$ [Hx Hb Hs]
  · isplitl [Hx]; · iexact Hx
    isplitl [Hb]; · iexact Hb
    iexact Hs
  iintro Hfl
  iapply Hk
  unfold inFly
  iapply (Transfers.Flight_mono (EC := countersEmb) ?_) $$ Hfl
  unfold xPc inHas
  iintro ⟨Hb, Hx⟩
  isplitl [Hb]
  · iexists _
    isplitr
    rotate_left
    · iexact Hb
    ipureintro
    exact View.read_write_univ _ _
  · iexact Hx

theorem fetched_spec (r : ℕ) (k : PUnit → TP F i) (Q : PUnit → sProp 𝕄) :
    iprop(inFly d i X r ∗ owing d i O W ∗ MayWaits (thr d i) (default : HIx 1) O)
      ⊢ iprop((iprop(inHas d i r ((xC i r).view.read (Elt F) X) ∗ xPc d i X r ∗ semVal (thr d i, .dma (si r).sem) 0 ∗ owing d i O W)
          -∗ wp frame (wpE (defs₀ (F := F)) 𝒱₀ (thr d i) none) Set.univ (k ⟨⟩) Q)
        -∗ wp frame (wpE (defs₀ (F := F)) 𝒱₀ (thr d i) none) Set.univ (fetched (F := F) i r >>= k) Q) := by
  unfold inFly owing
  iintro ⟨Hfl, ⟨%W', %hW, HO⟩, Hmw⟩ Hk
  iapply (Transfers.wp_waitLocalO countersEmb 𝒱₀ (thr d i) none (default : HIx 1) (N := (inB r).view.dmaCredit) rfl) $$ [Hfl HO Hmw]
  · isplitl [Hfl]; · iexact Hfl
    isplitl [HO]; · iexact HO
    iapply (MayWaits.elim (.dma (si r).sem)) $$ Hmw
  iintro ⟨⟨Hb, Hx⟩, Hs, HO⟩
  iapply Hk
  isplitl [Hb]; · iexact Hb
  isplitl [Hx]; · iexact Hx
  isplitl [Hs]; · iexact Hs
  iexists _
  isplitr
  rotate_left
  · iexact HO
  ipureintro
  intro p hp
  rcases Finset.mem_insert.mp hp with rfl | hp
  · exact Or.inr rfl
  · exact hW p hp

/-- Writing what `g` reads leaves `g`, on the view's elements. -/
theorem write_eq_of_read {κ : Kind} {sp : Space} {s : Shape} {e : EltTy} (v : View sig κ sp s e) (f g : v.ty.Contents (Elt F))
    (w : s.Idx → Elt F e) (h : w = v.read (Elt F) g) (z : s.Idx) : v.write (Elt F) f w Finset.univ (v.emb z) = g (v.emb z) := by
  have e : v.read (Elt F) (v.write (Elt F) f w Finset.univ) z = v.read (Elt F) g z := by
    rw [View.read_write_univ, h]
  rw [View.read_apply, View.read_apply] at e
  exact (cast_inj _).mp e

theorem putOut_spec (r : ℕ) (w : S16384.Idx → Elt F .i32) (hw : (oC i r).view.read (Elt F) oF = w) (k : PUnit → TP F i) (Q : PUnit → sProp 𝕄) :
    iprop(oPc d i o₀ r ∗ outHas d i r w ∗ semVal (thr d i, .dma (so r).sem) 0)
      ⊢ iprop((outFly d i oF r -∗ wp frame (wpE (defs₀ (F := F)) 𝒱₀ (thr d i) none) Set.univ (k ⟨⟩) Q)
        -∗ wp frame (wpE (defs₀ (F := F)) 𝒱₀ (thr d i) none) Set.univ (putOut (F := F) i r >>= k) Q) := by
  unfold oPc outHas
  iintro ⟨Ho, ⟨%f, %hf, Hb⟩, Hs⟩ Hk
  have hne : 0 < (oC i r).view.dmaCredit := Nat.pos_of_ne_zero fun h =>
    absurd ((View.amount_eq_zero_iff (oC i r).view (.dma (so r).sem)).mp h) (by decide)
  iapply (Transfers.wp_dmaLocal countersEmb 𝒱₀ (thr d i) none (default : HIx 1) (oC i r).view.dmaCredit rfl hne (Finset.Subset.refl _)) $$ [Ho Hb Hs]
  · isplitl [Hb]; · iexact Hb
    isplitl [Ho]; · iexact Ho
    iexact Hs
  iintro Hfl
  iapply Hk
  unfold outFly
  iapply (Transfers.Flight_mono (EC := countersEmb) ?_) $$ Hfl
  unfold oPc outAny
  iintro ⟨Ho, Hb⟩
  isplitl [Ho]
  · iapply (Entails.of_eq (pointsTo_congr ?_)) $$ Ho
    intro y hy
    obtain ⟨z, -, rfl⟩ := Finset.mem_map.mp hy
    exact write_eq_of_read (oC i r).view o₀ oF _ (hf.trans hw.symm) z
  · iexists _; iexact Hb

theorem isOut_spec (r : ℕ) (k : PUnit → TP F i) (Q : PUnit → sProp 𝕄) :
    iprop(outFly d i oF r ∗ owing d i O W ∗ MayWaits (thr d i) (default : HIx 1) O)
      ⊢ iprop((iprop(oPc d i oF r ∗ outAny (F := F) d i r ∗ semVal (thr d i, .dma (so r).sem) 0 ∗ owing d i O W)
          -∗ wp frame (wpE (defs₀ (F := F)) 𝒱₀ (thr d i) none) Set.univ (k ⟨⟩) Q)
        -∗ wp frame (wpE (defs₀ (F := F)) 𝒱₀ (thr d i) none) Set.univ (isOut (F := F) i r >>= k) Q) := by
  unfold outFly owing
  iintro ⟨Hfl, ⟨%W', %hW, HO⟩, Hmw⟩ Hk
  iapply (Transfers.wp_waitLocalO countersEmb 𝒱₀ (thr d i) none (default : HIx 1) (N := (oC i r).view.dmaCredit) rfl) $$ [Hfl HO Hmw]
  · isplitl [Hfl]; · iexact Hfl
    isplitl [HO]; · iexact HO
    iapply (MayWaits.elim (.dma (so r).sem)) $$ Hmw
  iintro ⟨⟨Ho, Hb⟩, Hs, HO⟩
  iapply Hk
  isplitl [Ho]; · iexact Ho
  isplitl [Hb]; · iexact Hb
  isplitl [Hs]; · iexact Hs
  iexists _
  isplitr
  rotate_left
  · iexact HO
  ipureintro
  intro p hp
  rcases Finset.mem_insert.mp hp with rfl | hp
  · exact Or.inr rfl
  · exact hW p hp

/-! ## The state between two chunks -/

theorem ico_head (Φ : ℕ → sProp 𝕄) {c n : ℕ} (h : c < n) :
    bigSep (Finset.Ico c n) Φ = iprop(Φ c ∗ bigSep (Finset.Ico (c + 1) n) Φ) := by
  rw [show Finset.Ico c n = insert c (Finset.Ico (c + 1) n) from by ext x; simp; omega,
    bigSep_insert (by simp)]
  rfl

theorem ico_nil (Φ : ℕ → sProp 𝕄) {c n : ℕ} (h : n ≤ c) : bigSep (Finset.Ico c n) Φ = iprop(emp) := by
  rw [Finset.Ico_eq_empty (by omega), bigSep_empty]; rfl

theorem range_last (Φ : ℕ → sProp 𝕄) (n : ℕ) :
    bigSep (Finset.range (n + 1)) Φ = iprop(Φ n ∗ bigSep (Finset.range n) Φ) := by
  rw [Finset.range_add_one, bigSep_insert (by simp)]
  rfl

theorem mod3 (r : ℕ) : inB (r + 3) = inB r ∧ si (r + 3) = si r := by
  unfold inB si; rw [Nat.add_mod_right]; exact ⟨rfl, rfl⟩

theorem mod2 (r : ℕ) : outB (r + 2) = outB r ∧ so (r + 2) = so r := by
  unfold outB so; rw [Nat.add_mod_right]; exact ⟨rfl, rfl⟩

/-- Chunk `r`'s input buffer is free. -/
def inIdle (r : ℕ) : sProp 𝕄 := iprop((∃ w, inHas (F := F) d i r w) ∗ semVal (thr d i, .dma (si r).sem) 0)

/-- Chunk `r`'s output buffer is free. -/
def outIdle (r : ℕ) : sProp 𝕄 := iprop(outAny (F := F) d i r ∗ semVal (thr d i, .dma (so r).sem) 0)

theorem inIdle_add (r : ℕ) : inIdle (F := F) d i (r + 3) = inIdle d i r := by
  unfold inIdle inHas; rw [(mod3 r).1, (mod3 r).2]

theorem outIdle_add (r : ℕ) : outIdle (F := F) d i (r + 2) = outIdle d i r := by
  unfold outIdle outAny; rw [(mod2 r).1, (mod2 r).2]

/-- Chunk `r`'s input buffer, its fetch started where there is such a chunk. -/
def inSt (r : ℕ) : sProp 𝕄 := if r < 32 then inFly d i X r else inIdle d i r

/-- The output buffer of chunk `c`, before that chunk: written out from two chunks back. -/
def outSt (c : ℕ) : sProp 𝕄 := if 2 ≤ c then outFly d i oF (c - 2) else outIdle d i c

/-- What the tile holds before chunk `c`. -/
def St (c : ℕ) : sProp 𝕄 :=
  iprop((inSt d i X c ∗ inSt d i X (c + 1) ∗ inIdle d i (c + 2)) ∗ (outSt d i oF c ∗ outSt d i oF (c + 1))
    ∗ (bigSep (Finset.range c) (xPc d i X) ∗ bigSep (Finset.Ico (c + 2) 32) (xPc d i X))
    ∗ (bigSep (Finset.range (c - 2)) (oPc d i oF) ∗ bigSep (Finset.Ico c 32) (oPc d i o₀))
    ∗ owing d i O W)

/-- The fetch two chunks ahead. -/
theorem ahead_spec (c : ℕ) (k : TP F i) (Q : PUnit → sProp 𝕄) :
    iprop(inIdle d i (c + 2) ∗ bigSep (Finset.Ico (c + 2) 32) (xPc d i X))
      ⊢ iprop((iprop(inSt d i X (c + 2) ∗ bigSep (Finset.Ico (c + 3) 32) (xPc d i X))
          -∗ wp frame (wpE (defs₀ (F := F)) 𝒱₀ (thr d i) none) Set.univ k Q)
        -∗ wp frame (wpE (defs₀ (F := F)) 𝒱₀ (thr d i) none) Set.univ (ahead i c k) Q) := by
  unfold ahead inSt
  by_cases h : c + 2 < 32
  · rw [if_pos h, if_pos h, ico_head _ h]
    unfold inIdle
    iintro ⟨⟨Hb, Hs⟩, Hx, Hxs⟩ Hk
    iapply (fetch_spec d i X (c + 2) (fun _ => k) Q) $$ [Hx Hb Hs]
    · isplitl [Hx]; · iexact Hx
      isplitl [Hb]; · iexact Hb
      iexact Hs
    iintro Hf
    iapply Hk
    isplitl [Hf]; · iexact Hf
    iexact Hxs
  · rw [if_neg h, if_neg h, ico_nil _ (show 32 ≤ c + 2 by omega), ico_nil _ (show 32 ≤ c + 3 by omega)]
    iintro H Hk
    iapply Hk $$ H

/-- The write-out two chunks back. -/
theorem back_spec (c : ℕ) (k : TP F i) (Q : PUnit → sProp 𝕄) :
    iprop(outSt d i oF c ∗ bigSep (Finset.range (c - 2)) (oPc d i oF) ∗ owing d i O W ∗ MayWaits (thr d i) (default : HIx 1) O)
      ⊢ iprop((iprop(outIdle d i c ∗ bigSep (Finset.range (c + 1 - 2)) (oPc d i oF) ∗ owing d i O W)
          -∗ wp frame (wpE (defs₀ (F := F)) 𝒱₀ (thr d i) none) Set.univ k Q)
        -∗ wp frame (wpE (defs₀ (F := F)) 𝒱₀ (thr d i) none) Set.univ (back i c k) Q) := by
  unfold back outSt
  by_cases h : 2 ≤ c
  · rw [if_pos h, if_pos h]
    obtain ⟨r, rfl⟩ : ∃ r, c = r + 2 := ⟨c - 2, by omega⟩
    rw [show r + 2 - 2 = r by omega, show r + 2 + 1 - 2 = r + 1 by omega, range_last, outIdle_add]
    unfold outIdle
    iintro ⟨Hfl, Hos, HO, Hmw⟩ Hk
    iapply (isOut_spec d i oF O W r (fun _ => k) Q) $$ [Hfl HO Hmw]
    · isplitl [Hfl]; · iexact Hfl
      isplitl [HO]; · iexact HO
      iexact Hmw
    iintro ⟨Ho, Hb, Hs, HO⟩
    iapply Hk
    isplitl [Hb Hs]
    · isplitl [Hb]; · iexact Hb
      iexact Hs
    isplitl [Ho Hos]
    · isplitl [Ho]; · iexact Ho
      iexact Hos
    iexact HO
  · rw [if_neg h, if_neg h, show c - 2 = 0 by omega, show c + 1 - 2 = 0 by omega]
    iintro ⟨Hb, Hos, HO, -⟩ Hk
    iapply Hk
    isplitl [Hb]; · iexact Hb
    isplitl [Hos]; · iexact Hos
    iexact HO

variable (st bi : FVec F S16 .f32)
variable (hoF : ∀ r, (oC i r).view.read (Elt F) oF = labC st bi ((xC i r).view.read (Elt F) X))

include hoF in
/-- One chunk takes the state to the next. -/
theorem chunk_spec (c : ℕ) (hc : c < 32) (k : TP F i) (Q : PUnit → sProp 𝕄) :
    iprop(St d i X o₀ oF O W c ∗ MayWaits (thr d i) (default : HIx 1) O)
      ⊢ iprop((St d i X o₀ oF O W (c + 1) -∗ wp frame (wpE (defs₀ (F := F)) 𝒱₀ (thr d i) none) Set.univ k Q)
        -∗ wp frame (wpE (defs₀ (F := F)) 𝒱₀ (thr d i) none) Set.univ (chunk i st bi c k) Q) := by
  unfold St chunk
  rw [show inSt d i X c = inFly d i X c from if_pos hc, ico_head (oPc d i o₀) hc, range_last (xPc d i X),
    show c + 1 + 2 = c + 3 from rfl, inIdle_add, show c + 1 + 1 = c + 2 from rfl,
    show outSt d i oF (c + 2) = outFly d i oF c from if_pos (by omega)]
  iintro ⟨⟨⟨Hi0, Hi1, Hi2⟩, ⟨Ho0, Ho1⟩, ⟨Hxd, Hxt⟩, ⟨Hod, Ho, Hot⟩, HO⟩, #Hmw⟩ Hk
  iapply (fetched_spec d i X O W c _ Q) $$ [Hi0 HO]
  · isplitl [Hi0]; · iexact Hi0
    isplitl [HO]; · iexact HO
    iexact Hmw
  iintro ⟨Hb, Hx, Hs, HO⟩
  iapply (ahead_spec d i X c _ Q) $$ [Hi2 Hxt]
  · isplitl [Hi2]; · iexact Hi2
    iexact Hxt
  iintro ⟨Hi2, Hxt⟩
  iapply (back_spec d i oF O W c _ Q) $$ [Ho0 Hod HO]
  · isplitl [Ho0]; · iexact Ho0
    isplitl [Hod]; · iexact Hod
    isplitl [HO]; · iexact HO
    iexact Hmw
  unfold outIdle
  iintro ⟨⟨Hob, Hos⟩, Hod, HO⟩
  iapply (loop_spec d i c st bi ((xC i c).view.read (Elt F) X) _ Q) $$ [Hb Hob]
  · isplitl [Hb]; · iexact Hb
    iexact Hob
  iintro ⟨Hb, Hob⟩
  iapply (putOut_spec d i o₀ oF c _ (hoF c) (fun _ => k) Q) $$ [Ho Hob Hos]
  · isplitl [Ho]; · iexact Ho
    isplitl [Hob]; · iexact Hob
    iexact Hos
  iintro Hfl
  iapply Hk
  isplitl [Hi1 Hi2 Hb Hs]
  · isplitl [Hi1]; · iexact Hi1
    isplitl [Hi2]; · iexact Hi2
    unfold inIdle
    isplitl [Hb]
    · iexists _; iexact Hb
    · iexact Hs
  isplitl [Ho1 Hfl]
  · isplitl [Ho1]; · iexact Ho1
    iexact Hfl
  isplitl [Hxd Hx Hxt]
  · isplitl [Hxd Hx]
    · isplitl [Hx]; · iexact Hx
      iexact Hxd
    · iexact Hxt
  isplitl [Hod Hot]
  · isplitl [Hod]; · iexact Hod
    iexact Hot
  iexact HO

/-- What the tile ends with: its chunks of the input, and of the labels at their values, and its buffers free. -/
def Fin_ : sProp 𝕄 :=
  iprop((inIdle (F := F) d i 0 ∗ inIdle (F := F) d i 1 ∗ inIdle (F := F) d i 2)
    ∗ (outIdle (F := F) d i 0 ∗ outIdle (F := F) d i 1)
    ∗ bigSep (Finset.range 32) (xPc d i X) ∗ bigSep (Finset.range 32) (oPc d i oF) ∗ owing d i O W)

include hoF in
/-- The last chunks, from the state before them. -/
theorem chain_spec (n : ℕ) (hn : n ≤ 32) :
    iprop(St d i X o₀ oF O W (32 - n) ∗ MayWaits (thr d i) (default : HIx 1) O)
      ⊢ wp frame (wpE (defs₀ (F := F)) 𝒱₀ (thr d i) none) Set.univ (chain (F := F) i st bi n)
          fun _ => Fin_ d i X oF O W := by
  induction n with
  | succ n ih =>
    iintro ⟨HS, #Hmw⟩
    have h := chunk_spec d i X o₀ oF O W st bi hoF (31 - n) (by omega) (chain (F := F) i st bi n) (fun _ => Fin_ d i X oF O W)
    rw [show 31 - n + 1 = 32 - n by omega] at h
    rw [show 32 - (n + 1) = 31 - n by omega]
    iapply h $$ [HS]
    · isplitl [HS]; · iexact HS
      iexact Hmw
    iintro HS
    iapply (ih (by omega))
    isplitl [HS]; · iexact HS
    iexact Hmw
  | zero =>
    unfold St chain
    rw [show 32 - 0 = 32 from rfl, show inSt d i X 32 = inIdle d i 32 from if_neg (by omega),
      show inSt d i X (32 + 1) = inIdle d i 33 from if_neg (by omega),
      show outSt d i oF 32 = outFly d i oF 30 from if_pos (by omega),
      show outSt d i oF (32 + 1) = outFly d i oF 31 from if_pos (by omega), ico_nil _ (le_refl 32)]
    have e0 : inIdle (F := F) d i 33 = inIdle d i 0 := by
      rw [show (33 : ℕ) = 0 + 3 + 3 + 3 + 3 + 3 + 3 + 3 + 3 + 3 + 3 + 3 from rfl]; simp only [inIdle_add]
    have e1 : inIdle (F := F) d i (32 + 2) = inIdle d i 1 := by
      rw [show (32 + 2 : ℕ) = 1 + 3 + 3 + 3 + 3 + 3 + 3 + 3 + 3 + 3 + 3 + 3 from rfl]; simp only [inIdle_add]
    have e2 : inIdle (F := F) d i 32 = inIdle d i 2 := by
      rw [show (32 : ℕ) = 2 + 3 + 3 + 3 + 3 + 3 + 3 + 3 + 3 + 3 + 3 from rfl]; simp only [inIdle_add]
    rw [e0, e1, e2, show 32 - 2 = 30 from rfl]
    iintro ⟨⟨⟨Hi2, Hi0, Hi1⟩, ⟨Ho0, Ho1⟩, ⟨Hxd, -⟩, ⟨Hod, -⟩, HO⟩, #Hmw⟩
    iapply (isOut_spec d i oF O W 30 _ _) $$ [Ho0 HO]
    · isplitl [Ho0]; · iexact Ho0
      isplitl [HO]; · iexact HO
      iexact Hmw
    iintro ⟨Hp0, Hb0, Hs0, HO⟩
    iapply (isOut_spec d i oF O W 31 _ _) $$ [Ho1 HO]
    · isplitl [Ho1]; · iexact Ho1
      isplitl [HO]; · iexact HO
      iexact Hmw
    iintro ⟨Hp1, Hb1, Hs1, HO⟩
    simp only [Pure.pure]
    rw [wp_ret]
    imodintro
    unfold Fin_
    have f0 : outIdle (F := F) d i 0 = outIdle d i 30 := by
      rw [show (30 : ℕ) = 0 + 2 + 2 + 2 + 2 + 2 + 2 + 2 + 2 + 2 + 2 + 2 + 2 + 2 + 2 + 2 from rfl]; simp only [outIdle_add]
    have f1 : outIdle (F := F) d i 1 = outIdle d i 31 := by
      rw [show (31 : ℕ) = 1 + 2 + 2 + 2 + 2 + 2 + 2 + 2 + 2 + 2 + 2 + 2 + 2 + 2 + 2 + 2 from rfl]; simp only [outIdle_add]
    rw [f0, f1, range_last (oPc d i oF) 31, range_last (oPc d i oF) 30]
    unfold outIdle
    isplitl [Hi0 Hi1 Hi2]
    · isplitl [Hi0]; · iexact Hi0
      isplitl [Hi1]; · iexact Hi1
      iexact Hi2
    isplitl [Hb0 Hb1 Hs0 Hs1]
    · isplitl [Hb0 Hs0]
      · isplitl [Hb0]; · iexact Hb0
        iexact Hs0
      · isplitl [Hb1]; · iexact Hb1
        iexact Hs1
    isplitl [Hxd]; · iexact Hxd
    isplitl [Hp0 Hp1 Hod]
    · isplitl [Hp1]; · iexact Hp1
      isplitl [Hp0]; · iexact Hp0
      iexact Hod
    iexact HO

include hoF in
/-- All the chunks of the tile, the first two fetches first. -/
theorem chunks_spec :
    iprop((inIdle (F := F) d i 0 ∗ inIdle (F := F) d i 1 ∗ inIdle (F := F) d i 2)
        ∗ (outIdle (F := F) d i 0 ∗ outIdle (F := F) d i 1)
        ∗ bigSep (Finset.range 32) (xPc d i X) ∗ bigSep (Finset.range 32) (oPc d i o₀) ∗ owing d i O W
        ∗ MayWaits (thr d i) (default : HIx 1) O)
      ⊢ wp frame (wpE (defs₀ (F := F)) 𝒱₀ (thr d i) none) Set.univ
          (do fetch (F := F) i 0; fetch (F := F) i 1; chain (F := F) i st bi 32)
          fun _ => Fin_ d i X oF O W := by
  rw [Finset.range_eq_Ico, ico_head (xPc d i X) (show 0 < 32 by omega), ico_head (xPc d i X) (show 0 + 1 < 32 by omega)]
  unfold inIdle
  iintro ⟨⟨⟨Hb0, Hs0⟩, ⟨Hb1, Hs1⟩, Hi2⟩, ⟨Ho0, Ho1⟩, ⟨Hx0, Hx1, Hxs⟩, Hos, HO, #Hmw⟩
  iapply (fetch_spec d i X 0 _ _) $$ [Hx0 Hb0 Hs0]
  · isplitl [Hx0]; · iexact Hx0
    isplitl [Hb0]; · iexact Hb0
    iexact Hs0
  iintro Hf0
  iapply (fetch_spec d i X 1 _ _) $$ [Hx1 Hb1 Hs1]
  · isplitl [Hx1]; · iexact Hx1
    isplitl [Hb1]; · iexact Hb1
    iexact Hs1
  iintro Hf1
  iapply (chain_spec d i X o₀ oF O W st bi hoF 32 (le_refl _))
  unfold St
  rw [show inSt d i X (32 - 32) = inFly d i X 0 from if_pos (by omega), show inSt d i X (32 - 32 + 1) = inFly d i X 1 from if_pos (by omega),
    show outSt d i oF (32 - 32) = outIdle d i 0 from if_neg (by omega),
    show outSt d i oF (32 - 32 + 1) = outIdle d i 1 from if_neg (by omega)]
  isplitl [Hf0 Hf1 Hi2 Ho0 Ho1 Hxs Hos HO]
  · isplitl [Hf0 Hf1 Hi2]
    · isplitl [Hf0]; · iexact Hf0
      isplitl [Hf1]; · iexact Hf1
      unfold inIdle
      iexact Hi2
    isplitl [Ho0 Ho1]
    · isplitl [Ho0]; · iexact Ho0
      iexact Ho1
    isplitl [Hxs]
    · isplitr
      · rw [show Finset.range (32 - 32) = ∅ from rfl, bigSep_empty]; iempintro
      · iexact Hxs
    isplitl [Hos]
    · isplitr
      · rw [show Finset.range (32 - 32 - 2) = ∅ from rfl, bigSep_empty]; iempintro
      · iexact Hos
    iexact HO
  iexact Hmw

end Tile

end Cert.Proof.Kern

end
-- ==== Proof.Limits.lean ====
/-
  A tile's step and bias, for any float values: the tile copies the minima and maxima the TensorCore left, folds them to
  sixteen lanes, exchanges the lanes until each holds the whole input's minimum and maximum, and computes the step and
  the bias of the labels. Stated as functions of the copied array, the same for every tile.
-/
module

public import proofs.«01_k».proof.Proof.Chunks
public import Idealize.ShloMosaic.Lib.SparseCore.Ops
public import Idealize.ShloMosaic.Lib.ValueLayout

@[expose] public section

noncomputable section

namespace Cert.Proof.Kern

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

/-! ## The functions -/

/-- Sixteen lanes of row `r` of block `t`, from the `g`-th group. -/
def sub (M : S8x8x128.Idx → Elt F .f32) (t r g : Fin 8) : FVec F S16 .f32 :=
  fun l => M (ix3 t r ⟨16 * g.val + (l 0).val, by
    have h : (l 0).val < 16 := (l 0).isLt.trans_eq (S16_size 0)
    omega⟩)

/-- The four rows' eight groups each, in order. -/
def groups : List (Fin 4 × Fin 8) := (List.finRange 4).flatMap fun r => (List.finRange 8).map fun g => (r, g)

/-- Rows 0 to 3 of block `t`, folded by the minimum. -/
def foldMin (M : S8x8x128.Idx → Elt F .f32) (t : Fin 8) (a : FVec F S16 .f32) : FVec F S16 .f32 :=
  groups.foldl (fun a p => minimumf a (sub M t (p.1.castLE (by decide)) p.2)) a

/-- Rows 4 to 7 of block `t`, folded by the maximum. -/
def foldMax (M : S8x8x128.Idx → Elt F .f32) (t : Fin 8) (a : FVec F S16 .f32) : FVec F S16 .f32 :=
  groups.foldl (fun a p => maximumf a (sub M t (p.1.natAdd 4) p.2)) a

/-- The first `n` blocks, -/
def accMin (M : S8x8x128.Idx → Elt F .f32) : ℕ → FVec F S16 .f32
  | 0 => sub M 0 0 0
  | n + 1 => foldMin M (Fin.ofNat 8 n) (accMin M n)

/-- and their maxima. -/
def accMax (M : S8x8x128.Idx → Elt F .f32) : ℕ → FVec F S16 .f32
  | 0 => sub M 0 4 0
  | n + 1 => foldMax M (Fin.ofNat 8 n) (accMax M n)

/-- Each lane's number, with the bits of `s` turned. -/
def turned (s : BitVec 32) : IVec S16 32 :=
  xori (iota .scVector S16 32 [0] iota_S16_d0_w32_scVector) (broadcast S16 s)

theorem turned_toNat (s : BitVec 32) (x : S16.Idx) : (turned s x).toNat = (x 0).val ^^^ s.toNat := by
  have hx : (x 0).val < 16 := (x 0).isLt.trans_eq (S16_size 0)
  show (BitVec.ofNat 32 (0 * S16.size 0 + (x 0).val) ^^^ s).toNat = _
  rw [BitVec.toNat_xor, BitVec.toNat_ofNat, Nat.zero_mul, Nat.zero_add, Nat.mod_eq_of_lt (by omega)]

theorem turned_lt (s : BitVec 32) (hs : s.toNat < 16) (a : Fin 1) (x : S16.Idx) :
    ((![turned s] : Fin 1 → IVec S16 32) a x).toNat < S16.size a := by
  have hx : (x 0).val < 16 := (x 0).isLt.trans_eq (S16_size 0)
  obtain rfl : a = 0 := Subsingleton.elim _ _
  show (turned s x).toNat < 16
  rw [turned_toNat]
  exact Nat.xor_lt_two_pow (n := 4) hx hs

/-- The lanes of `v`, each from the lane whose number has the bits of `s` turned. -/
def xchg (s : ℕ) (v : FVec F S16 .f32) : FVec F S16 .f32 :=
  fun l => v (ix1 ⟨((l 0).val ^^^ s) % 16, Nat.mod_lt _ (by decide)⟩)

theorem gather_eq (s : BitVec 32) (hs : s.toNat < 16) (v : FVec F S16 .f32)
    (h : ∀ a x, ((![turned s] : Fin 1 → IVec S16 32) a x).toNat < S16.size a) :
    (loadIdx (F := F) (e := .f32) v ![turned s] h : FVec F S16 .f32) = xchg s.toNat v := by
  funext l
  have hl : (l 0).val < 16 := (l 0).isLt.trans_eq (S16_size 0)
  refine congrArg v (funext fun a => Fin.ext ?_)
  obtain rfl : a = 0 := Subsingleton.elim _ _
  show (turned s l).toNat = ((l 0).val ^^^ s.toNat) % 16
  rw [turned_toNat, Nat.mod_eq_of_lt (Nat.xor_lt_two_pow (n := 4) hl hs)]

/-- The lanes' minimum, exchanged over the four bits of their numbers, -/
def allMin (v : FVec F S16 .f32) : FVec F S16 .f32 :=
  let v₁ := minimumf v (xchg 8 v)
  let v₂ := minimumf v₁ (xchg 4 v₁)
  let v₃ := minimumf v₂ (xchg 2 v₂)
  minimumf v₃ (xchg 1 v₃)

/-- and their maximum. -/
def allMax (v : FVec F S16 .f32) : FVec F S16 .f32 :=
  let v₁ := maximumf v (xchg 8 v)
  let v₂ := maximumf v₁ (xchg 4 v₁)
  let v₃ := maximumf v₂ (xchg 2 v₂)
  maximumf v₃ (xchg 1 v₃)

/-- The lowest threshold in every lane, from the lanes' minimum. -/
def lowOf (mn : FVec F S16 .f32) : FVec F S16 .f32 := addf mn (broadcast S16 (Scalar.ofBits .f32 0x358637BD#32))

/-- The step of the labels, from the minimum and the maximum. -/
def stepOf (mn mx : FVec F S16 .f32) : FVec F S16 .f32 :=
  divf (broadcast S16 (Scalar.ofBits .f32 0x41000000#32))
    (subf (subf mx (broadcast S16 (Scalar.ofBits .f32 0x358637BD#32))) (lowOf mn))

/-- The bias of the labels. -/
def biasOf (mn mx : FVec F S16 .f32) : FVec F S16 .f32 :=
  subf (broadcast S16 (Scalar.ofBits .f32 0x3F7FFFFE#32)) (mulf (lowOf mn) (stepOf mn mx))

/-- The step, from the minima and maxima the TensorCore left, -/
def stepM (M : S8x8x128.Idx → Elt F .f32) : FVec F S16 .f32 := stepOf (allMin (accMin M 8)) (allMax (accMax M 8))

/-- and the bias. -/
def biasM (M : S8x8x128.Idx → Elt F .f32) : FVec F S16 .f32 := biasOf (allMin (accMin M 8)) (allMax (accMax M 8))

/-! ## A load of sixteen lanes -/

theorem sub_eq {sp : Space} {κ : Kind} (v : View sig κ sp S8x8x128 .f32) (f : v.ty.Contents (Elt F)) (t r g : Fin 8) (off : Fin 3 → ℕ)
    (inb : ∀ a, off a + S1x1x16.size a ≤ S8x8x128.size a) (h : off = ![t.val, r.val, 16 * g.val]) :
    shapeCast S16 (v.readAt (Elt F) (Rect.unit (s := S8x8x128) off S1x1x16.size inb).toLoadRect f) shapeCasts_S1x1x16_S16
      = sub (v.read (Elt F) f) t r g := by
  subst h
  funext l
  have hl : (l 0).val < 16 := (l 0).isLt.trans_eq (S16_size 0)
  rw [shapeCast_apply _ _ l (ix3 0 0 ⟨(l 0).val, hl⟩ : S1x1x16.Idx) (by
    rw [Shape.rowMajor_val_three, Shape.rowMajor_val_one]; show (0 * 1 + 0) * 16 + (l 0).val = (l 0).val; omega)]
  refine congrArg (v.read (Elt F) f) (funext fun a => Fin.ext ?_)
  match a with
  | 0 => show t.val + 1 * 0 = t.val; omega
  | 1 => show r.val + 1 * 0 = r.val; omega
  | 2 => show 16 * g.val + 1 * (l 0).val = 16 * g.val + (l 0).val; omega

section Tile

variable (d : Dev nD) (i : grid1.Coords)

/-- The tile's copy of the minima and maxima is `M`. -/
def mHas (M : S8x8x128.Idx → Elt F .f32) : sProp 𝕄 :=
  iprop(∃ f, ⌜mV.view.read (Elt F) f = M⌝ ∗ mV.view.loc (thr d i) ↦[mV.view.set]{fullShare} f)

def redBody (i : grid1.Coords) (t : Fin k1_t1_loop.trips) (p : Vec F S16 .f32 × Vec F S16 .f32) : TPv F i (Vec F S16 .f32 × Vec F S16 .f32) :=
  k1_t1_body i xV (Memref.isWhole_whole _) mmV (Memref.isWhole_whole _) oV (Memref.isWhole_whole _) mV (Memref.isWhole_whole _)
    loV (Memref.isWhole_whole _) hiV (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    cc1_scratch8 cc1_scratch9 cc1_scratch10 cc1_scratch11 cc1_scratch12 cc1_scoped0 t p

theorem redBody_spec (M : S8x8x128.Idx → Elt F .f32) (t : Fin k1_t1_loop.trips) (p : Vec F S16 .f32 × Vec F S16 .f32)
    (Q : Vec F S16 .f32 × Vec F S16 .f32 → sProp 𝕄) :
    mHas d i M ⊢ iprop((mHas d i M -∗ Q (foldMin M (t.cast rfl) p.1, foldMax M (t.cast rfl) p.2))
      -∗ wp frame (wpE (defs₀ (F := F)) 𝒱₀ (thr d i) none) Set.univ (redBody (F := F) i t p) Q) := by
  unfold redBody k1_t1_body mHas
  rw [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel
  simp only [Prog.lift, bind, Prog.bind, Pure.pure]
  iintro ⟨%f, %hf, Hm⟩ HQ
  repeat (iapply (wp_load 𝒱₀ (thr d i) none Set.univ (m := mV) (View.setOn_subset_set _ _)) $$ Hm; iintro Hm)
  rw [wp_ret]
  imodintro
  have key : ∀ v, v = (foldMin M (t.cast rfl) p.1, foldMax M (t.cast rfl) p.2) →
      (Q (foldMin M (t.cast rfl) p.1, foldMax M (t.cast rfl) p.2) ⊢ Q v) := by rintro _ rfl; exact .rfl
  refine BIBase.Entails.trans ?_ (key _ ?_)
  · iintro ⟨HQ, Hm⟩
    iapply HQ
    iexists f
    isplitr
    · ipureintro; exact hf
    · iexact Hm
  rw [← hf]
  simp only [foldMin, foldMax, groups, List.finRange_succ, List.finRange_zero, List.flatMap_cons, List.flatMap_nil, List.map_cons, List.map_nil,
    List.append_nil, List.cons_append, List.nil_append, List.foldl_cons, List.foldl_nil,
      k1_pay3, k1_pay4, k1_pay5, k1_pay6, k1_pay7, k1_pay8, k1_pay9, k1_pay10, k1_pay11, k1_pay12, k1_pay13, k1_pay14, k1_pay15,
      k1_pay16, k1_pay17, k1_pay20, k1_pay21]
  refine congrArg₂ Prod.mk ?_ ?_
  · repeat' refine congrArg₂ minimumf ?_ (sub_eq mV.view f _ _ _ _ _ (by
      simp only [k1_off1_eq, k1_off2_eq, k1_off3_eq, k1_off4_eq, k1_off5_eq, k1_off6_eq, k1_off7_eq, k1_off8_eq, k1_off9_eq, k1_off10_eq,
      k1_off11_eq, k1_off12_eq, k1_off13_eq, k1_off14_eq, k1_off15_eq, k1_off16_eq, k1_off17_eq, k1_off18_eq, k1_off19_eq,
      k1_off20_eq, k1_off21_eq, k1_off22_eq, k1_off23_eq, k1_off24_eq, k1_off25_eq, k1_off26_eq, k1_off27_eq, k1_off28_eq,
      k1_off29_eq, k1_off30_eq, k1_off31_eq, k1_off32_eq, k1_off33_eq, k1_off34_eq, k1_off35_eq, k1_off36_eq, k1_off37_eq,
      k1_off38_eq, k1_off39_eq, k1_off40_eq, k1_off41_eq, k1_off42_eq, k1_off43_eq, k1_off44_eq, k1_off45_eq, k1_off46_eq,
      k1_off47_eq, k1_off48_eq, k1_off49_eq, k1_off50_eq, k1_off51_eq, k1_off52_eq, k1_off53_eq, k1_off54_eq, k1_off55_eq,
      k1_off56_eq, k1_off57_eq, k1_off58_eq, k1_off59_eq, k1_off60_eq, k1_off61_eq, k1_off62_eq, k1_off63_eq, k1_off64_eq]; rfl))
    rfl
  · repeat' refine congrArg₂ maximumf ?_ (sub_eq mV.view f _ _ _ _ _ (by
      simp only [k1_off1_eq, k1_off2_eq, k1_off3_eq, k1_off4_eq, k1_off5_eq, k1_off6_eq, k1_off7_eq, k1_off8_eq, k1_off9_eq, k1_off10_eq,
      k1_off11_eq, k1_off12_eq, k1_off13_eq, k1_off14_eq, k1_off15_eq, k1_off16_eq, k1_off17_eq, k1_off18_eq, k1_off19_eq,
      k1_off20_eq, k1_off21_eq, k1_off22_eq, k1_off23_eq, k1_off24_eq, k1_off25_eq, k1_off26_eq, k1_off27_eq, k1_off28_eq,
      k1_off29_eq, k1_off30_eq, k1_off31_eq, k1_off32_eq, k1_off33_eq, k1_off34_eq, k1_off35_eq, k1_off36_eq, k1_off37_eq,
      k1_off38_eq, k1_off39_eq, k1_off40_eq, k1_off41_eq, k1_off42_eq, k1_off43_eq, k1_off44_eq, k1_off45_eq, k1_off46_eq,
      k1_off47_eq, k1_off48_eq, k1_off49_eq, k1_off50_eq, k1_off51_eq, k1_off52_eq, k1_off53_eq, k1_off54_eq, k1_off55_eq,
      k1_off56_eq, k1_off57_eq, k1_off58_eq, k1_off59_eq, k1_off60_eq, k1_off61_eq, k1_off62_eq, k1_off63_eq, k1_off64_eq]; rfl))
    rfl

/-- All eight blocks' trips. -/
theorem redLoop_spec (M : S8x8x128.Idx → Elt F .f32) {β : Type} (k : Vec F S16 .f32 × Vec F S16 .f32 → TPv F i β) (Q : β → sProp 𝕄) :
    mHas d i M
      ⊢ iprop((mHas d i M -∗ wp frame (wpE (defs₀ (F := F)) 𝒱₀ (thr d i) none) Set.univ (k (accMin M 8, accMax M 8)) Q)
        -∗ wp frame (wpE (defs₀ (F := F)) 𝒱₀ (thr d i) none) Set.univ
            (Scf.Loop.for k1_t1_loop k1_t1_ok (sub M 0 0 0, sub M 0 4 0) (redBody (F := F) i) >>= k) Q) := by
  have h := Scf.wp_for_bind frame (wpE (defs₀ (F := F)) 𝒱₀ (thr d i) none) Set.univ k1_t1_loop.lb k1_t1_loop.ub k1_t1_loop.st
    k1_t1_ok (sub M 0 0 0, sub M 0 4 0) (redBody (F := F) i)
    (fun n p => iprop(⌜p = (accMin M n, accMax M n)⌝ ∗ mHas d i M)) (fun t p => by
      iintro ⟨%hp, H⟩
      subst hp
      iapply (redBody_spec d i M t _ _) $$ H
      iintro H
      isplitr
      · ipureintro
        have ht : Fin.ofNat 8 t.val = t.cast rfl := Fin.ext (Nat.mod_eq_of_lt t.isLt)
        simp only [accMin, accMax, ht]; rfl
      · iexact H) (kk := k) (Q := Q)
  iintro Hm Hk
  iapply h $$ [Hm]
  · isplitr
    · ipureintro; rfl
    · iexact Hm
  iintro %p ⟨%hp, Hm⟩
  subst hp
  iapply Hk $$ Hm

/-! ## The two lane buffers -/

/-- A buffer of sixteen lanes holds `v`. -/
def has (b : Memref sig .scVector .vmem S16 .f32) (v : FVec F S16 .f32) : sProp 𝕄 :=
  iprop(∃ f, ⌜b.view.read (Elt F) f = v⌝ ∗ b.view.loc (thr d i) ↦[b.view.set]{fullShare} f)

theorem S16_emb (inb : ∀ a, (![0] : Fin 1 → ℕ) a + S16.size a ≤ S16.size a) (l : S16.Idx) :
    (Rect.unit (s := S16) ![0] S16.size inb).emb l = l := by
  funext a; refine Fin.ext ?_
  obtain rfl : a = 0 := Subsingleton.elim _ _
  show 0 + 1 * (l 0).val = (l 0).val
  omega

theorem set_spec (b : Memref sig .scVector .vmem S16 .f32) (w v : FVec F S16 .f32) {β : Type}
    (inb inb' : ∀ a, (![0] : Fin 1 → ℕ) a + S16.size a ≤ S16.size a) (hl hs hr)
    (k : PUnit → TPv F i β) (Q : β → sProp 𝕄) :
    has d i b w
      ⊢ iprop((has d i b v -∗ wp frame (wpE (defs₀ (F := F)) 𝒱₀ (thr d i) none) Set.univ (k ⟨⟩) Q)
        -∗ wp frame (wpE (defs₀ (F := F)) 𝒱₀ (thr d i) none) Set.univ
          (.op (.load b (Rect.unit (s := S16) ![0] S16.size inb).toLoadRect hl) fun _ =>
            .op (.store b (Rect.unit (s := S16) ![0] S16.size inb') v Finset.univ hs hr) k) Q) := by
  unfold has
  iintro ⟨%f, -, Hb⟩ Hk
  iapply (wp_load 𝒱₀ (thr d i) none Set.univ (m := b) (View.setOn_subset_set _ _)) $$ Hb
  iintro Hb
  iapply (wp_store 𝒱₀ (thr d i) none Set.univ (m := b) (r := Rect.unit (s := S16) ![0] S16.size inb') (S := b.view.set) (Finset.Subset.trans (Memref.setOn_access_subset_setOn _ _ _) (View.setOn_subset_set _ _))) $$ Hb
  iintro Hb
  iapply Hk
  iexists _
  isplitr
  rotate_left
  · iexact Hb
  ipureintro
  funext l
  have h := View.read_slice_write_emb (v := b.view) (Val := Elt F) (Rect.unit (s := S16) ![0] S16.size inb') f v (Finset.mem_univ l)
  rwa [S16_emb] at h

theorem gather_spec (b : Memref sig .scVector .vmem S16 .f32) (v : FVec F S16 .f32) (s : BitVec 32) (hs : s.toNat < 16) {β : Type}
    (ix : IVec S16 32) (hix : ix = turned s) (h : ∀ a x, ((![ix] : Fin 1 → IVec S16 32) a x).toNat < S16.size a) (hl : b.view.Loads)
    (k : Vec F S16 .f32 → TPv F i β) (Q : β → sProp 𝕄) :
    has d i b v
      ⊢ iprop((has d i b v -∗ wp frame (wpE (defs₀ (F := F)) 𝒱₀ (thr d i) none) Set.univ (k (xchg s.toNat v)) Q)
        -∗ wp frame (wpE (defs₀ (F := F)) 𝒱₀ (thr d i) none) Set.univ (SparseCore.vectorLoadIdx b ![ix] h hl >>= k) Q) := by
  subst hix
  unfold has
  iintro ⟨%f, %hf, Hb⟩ Hk
  iapply (SparseCore.wp_vectorLoadIdx 𝒱₀ (thr d i) none Set.univ (base := b) (S := b.view.set)
    (Finset.Subset.trans (Memref.set_access_subset_setOn _ _) (View.setOn_subset_set _ _))) $$ Hb
  iintro Hb
  have e : ((b.access (.whole S16)).read (Elt F) f) = v := by rw [← hf]; funext l; exact congrArg (b.view.read (Elt F) f) (Rect.emb_whole_apply _ l)
  rw [e, gather_eq s hs]
  iapply Hk
  iexists f
  isplitr
  · ipureintro; exact hf
  · iexact Hb

/-! ## The copy, the fold and the exchanges -/

variable (O : CellTallies nD τ sig (HIx 1)) (W : Waits sig (HIx 1))

/-- What the limits' programs hold and give back: a share of the TensorCore's array, the three buffers at any contents,
    and the copy's semaphore at 0. -/
def limRes (q : PosShare TreeShare) (Mb : Buf (Elt F) (mmLoc d)) : sProp 𝕄 :=
  iprop((mmV.view.loc (thr d i) ↦[mmV.view.set]{q} Mb) ∗ (∃ M, mHas d i M) ∗ (∃ w, has d i loV w) ∗ (∃ w, has d i hiV w)
    ∗ semVal (thr d i, .dma cc1_scoped0.sem) 0 ∗ owing d i O W)

/-- The copy made, the blocks folded, and the first exchange. -/
theorem limits₁_spec (q : PosShare TreeShare) (Mb : Buf (Elt F) (mmLoc d))
    (Q : (Σ' (_ : BitVec 32) (_ : IVec S16 32) (_ : FVec F S16 .f32), FVec F S16 .f32) → sProp 𝕄)
    (M : S8x8x128.Idx → Elt F .f32) (hM : mmV.view.read (Elt F) Mb = M) :
    iprop(limRes d i O W q Mb ∗ MayWaits (thr d i) (default : HIx 1) O)
      ⊢ iprop((∀ v2, iprop((mmV.view.loc (thr d i) ↦[mmV.view.set]{q} Mb) ∗ (∃ M, mHas d i M) ∗ (∃ w, has d i loV w)
            ∗ has d i hiV (maximumf (accMax M 8) (xchg 8 (accMax M 8))) ∗ semVal (thr d i, .dma cc1_scoped0.sem) 0 ∗ owing d i O W)
          -∗ Q (⟨v2, iota .scVector S16 32 [0] iota_S16_d0_w32_scVector, maximumf (accMax M 8) (xchg 8 (accMax M 8)),
                minimumf (minimumf (accMin M 8) (xchg 8 (accMin M 8))) (xchg 4 (minimumf (accMin M 8) (xchg 8 (accMin M 8))))⟩))
        -∗ wp frame (wpE (defs₀ (F := F)) 𝒱₀ (thr d i) none) Set.univ (limits₁ (F := F) i) Q) := by
  unfold limRes owing
  unfold limits₁
  rw [k1_part8_eq_skeleton]
  unfold k1_part8_skel
  simp only [Prog.lift, bind, Prog.bind, Pure.pure]
  iintro ⟨⟨Hmm, ⟨%M0, Hm⟩, ⟨%w, Hlo⟩, ⟨%w', Hhi⟩, Hs, ⟨%W', %hW, HO⟩⟩, Hmw⟩ Hk
  unfold mHas
  icases Hm with ⟨%f0, %hf0, Hm⟩
  have hne : 0 < (mV.view (sig := sig)).dmaCredit := Nat.pos_of_ne_zero fun h =>
    absurd ((View.amount_eq_zero_iff mV.view (.dma cc1_scoped0.sem)).mp h) (by decide)
  iapply (Transfers.wp_dmaLocal countersEmb 𝒱₀ (thr d i) none (default : HIx 1) mV.view.dmaCredit rfl hne (Finset.Subset.refl _)) $$ [Hmm Hm Hs]
  · isplitl [Hmm]; · iexact Hmm
    isplitl [Hm]; · iexact Hm
    iexact Hs
  iintro Hfl
  iapply (Transfers.wp_waitLocalO countersEmb 𝒱₀ (thr d i) none (default : HIx 1) (N := mV.view.dmaCredit) rfl) $$ [Hfl HO Hmw]
  · isplitl [Hfl]; · iexact Hfl
    isplitl [HO]; · iexact HO
    iapply (MayWaits.elim (.dma cc1_scoped0.sem)) $$ Hmw
  iintro ⟨⟨Hm, Hmm⟩, Hs, HO⟩
  ihave Hm' := (show (_ : sProp 𝕄) ⊢ iprop(∃ f, ⌜mV.view.read (Elt F) f = M⌝ ∗ mV.view.loc (thr d i) ↦[mV.view.set]{fullShare} f) from by
    iintro Hm
    iexists _
    isplitr
    rotate_left
    · iexact Hm
    ipureintro
    exact (View.read_write_univ _ _).trans hM) $$ Hm
  icases Hm' with ⟨%f, %hf, Hm⟩
  iapply (wp_load 𝒱₀ (thr d i) none Set.univ (m := mV) (View.setOn_subset_set _ _)) $$ Hm
  iintro Hm
  iapply (wp_load 𝒱₀ (thr d i) none Set.univ (m := mV) (View.setOn_subset_set _ _)) $$ Hm
  iintro Hm
  have e1 : k1_pay18 (mV.view.readAt (Elt F) (Rect.unit (s := S8x8x128) ![0, 0, 0] S1x1x16.size inb_S8x8x128_S1x1x16_0_0_0).toLoadRect f) = sub M 0 0 0 := by
    rw [← hf]; exact sub_eq mV.view f 0 0 0 _ _ rfl
  have e2 : k1_pay19 (mV.view.readAt (Elt F) (Rect.unit (s := S8x8x128) ![0, 4, 0] S1x1x16.size inb_S8x8x128_S1x1x16_0_4_0).toLoadRect f) = sub M 0 4 0 := by
    rw [← hf]; exact sub_eq mV.view f 0 4 0 _ _ rfl
  erw [e1, e2]
  iapply (redLoop_spec d i M _ Q) $$ [Hm]
  · unfold mHas
    iexists f
    isplitr
    · ipureintro; exact hf
    · iexact Hm
  iintro Hm
  iapply (set_spec d i loV w (accMin M 8)) $$ Hlo
  iintro Hlo
  iapply (set_spec d i hiV w' (accMax M 8)) $$ Hhi
  iintro Hhi
  have hc1 : k1_chk1 k1_pay22 := turned_lt 8#32 (by decide)
  iapply (wp_assume 𝒱₀ (thr d i) none Set.univ hc1)
  iapply (gather_spec d i loV (accMin M 8) 8#32 (by decide) _ rfl) $$ Hlo
  iintro Hlo
  have hc2 : k1_chk2 k1_pay24 := turned_lt 8#32 (by decide)
  iapply (wp_assume 𝒱₀ (thr d i) none Set.univ hc2)
  iapply (gather_spec d i hiV (accMax M 8) 8#32 (by decide) _ rfl) $$ Hhi
  iintro Hhi
  iapply (set_spec d i loV _ (minimumf (accMin M 8) (xchg 8 (accMin M 8)))) $$ Hlo
  iintro Hlo
  iapply (set_spec d i hiV _ (maximumf (accMax M 8) (xchg 8 (accMax M 8)))) $$ Hhi
  iintro Hhi
  have hc3 : k1_chk3 k1_pay26 := turned_lt 4#32 (by decide)
  iapply (wp_assume 𝒱₀ (thr d i) none Set.univ hc3)
  iapply (gather_spec d i loV _ 4#32 (by decide) _ rfl) $$ Hlo
  iintro Hlo
  rw [wp_ret]; imodintro
  simp only [k1_pay25, k1_pay27, k1_pay23, BitVec.toNat_ofNat, Nat.reducePow, Nat.reduceMod]
  iapply Hk
  isplitl [Hmm]; · iexact Hmm
  isplitl [Hm]; · iexists M; unfold mHas; iexact Hm
  isplitl [Hlo]; · iexists _; iexact Hlo
  isplitl [Hhi]; · iexact Hhi
  isplitl [Hs]; · iexact Hs
  iexists _
  isplitr
  rotate_left
  · iexact HO
  ipureintro
  intro p hp
  rcases Finset.mem_insert.mp hp with rfl | hp
  · exact Or.inr rfl
  · exact hW p hp

/-- The exchanges left, the step and the bias. -/
theorem limits₂_spec (q : PosShare TreeShare) (Mb : Buf (Elt F) (mmLoc d)) (v2 : BitVec 32) (mn mx : FVec F S16 .f32)
    (Q : (Σ' (_ : FVec F S16 .f32), FVec F S16 .f32) → sProp 𝕄) :
    iprop((∃ w, has d i loV w) ∗ has d i hiV (maximumf mx (xchg 8 mx)))
      ⊢ iprop((iprop((∃ w, has d i loV w) ∗ (∃ w, has d i hiV w)) -∗ Q (⟨stepOf (allMin mn) (allMax mx), biasOf (allMin mn) (allMax mx)⟩))
        -∗ wp frame (wpE (defs₀ (F := F)) 𝒱₀ (thr d i) none) Set.univ
          (limits₂ (F := F) i v2 (iota .scVector S16 32 [0] iota_S16_d0_w32_scVector) (maximumf mx (xchg 8 mx))
            (minimumf (minimumf mn (xchg 8 mn)) (xchg 4 (minimumf mn (xchg 8 mn))))) Q) := by
  unfold limits₂
  rw [k1_part9_eq_skeleton]
  unfold k1_part9_skel
  simp only [Prog.lift, bind, Prog.bind, Pure.pure]
  iintro ⟨⟨%w, Hlo⟩, Hhi⟩ Hk
  have hc4 : k1_chk4 (k1_pay28 (iota .scVector S16 32 [0] iota_S16_d0_w32_scVector)) := turned_lt 4#32 (by decide)
  have hc5 : k1_chk5 (k1_pay30 (iota .scVector S16 32 [0] iota_S16_d0_w32_scVector)) := turned_lt 2#32 (by decide)
  have hc6 : k1_chk6 (k1_pay32 (iota .scVector S16 32 [0] iota_S16_d0_w32_scVector)) := turned_lt 2#32 (by decide)
  have hc7 : k1_chk7 (k1_pay34 (iota .scVector S16 32 [0] iota_S16_d0_w32_scVector)) := turned_lt 1#32 (by decide)
  have hc8 : k1_chk8 (k1_pay35 (iota .scVector S16 32 [0] iota_S16_d0_w32_scVector)) := turned_lt 1#32 (by decide)
  iapply (wp_assume 𝒱₀ (thr d i) none Set.univ hc4)
  iapply (gather_spec d i hiV _ 4#32 (by decide) _ rfl) $$ Hhi
  iintro Hhi
  iapply (set_spec d i loV w _) $$ Hlo
  iintro Hlo
  iapply (set_spec d i hiV _ _) $$ Hhi
  iintro Hhi
  iapply (wp_assume 𝒱₀ (thr d i) none Set.univ hc5)
  iapply (gather_spec d i loV _ 2#32 (by decide) _ rfl) $$ Hlo
  iintro Hlo
  iapply (wp_assume 𝒱₀ (thr d i) none Set.univ hc6)
  iapply (gather_spec d i hiV _ 2#32 (by decide) _ rfl) $$ Hhi
  iintro Hhi
  iapply (set_spec d i loV _ _) $$ Hlo
  iintro Hlo
  iapply (set_spec d i hiV _ _) $$ Hhi
  iintro Hhi
  iapply (wp_assume 𝒱₀ (thr d i) none Set.univ hc7)
  iapply (gather_spec d i loV _ 1#32 (by decide) _ rfl) $$ Hlo
  iintro Hlo
  iapply (wp_assume 𝒱₀ (thr d i) none Set.univ hc8)
  iapply (gather_spec d i hiV _ 1#32 (by decide) _ rfl) $$ Hhi
  iintro Hhi
  rw [wp_ret]; imodintro
  simp only [k1_pay38, k1_pay37, k1_pay36, k1_pay33, k1_pay31, k1_pay29, stepOf, biasOf, lowOf, allMin, allMax,
    BitVec.toNat_ofNat, Nat.reducePow, Nat.reduceMod]
  iapply Hk
  isplitl [Hlo]; · iexists _; iexact Hlo
  iexists _; iexact Hhi

/-- From the TensorCore's array: the step and the bias, everything handed back. -/
theorem limits_spec (q : PosShare TreeShare) (Mb : Buf (Elt F) (mmLoc d)) {β : Type} (k : FVec F S16 .f32 → FVec F S16 .f32 → TPv F i β)
    (Q : β → sProp 𝕄) :
    iprop(limRes d i O W q Mb ∗ MayWaits (thr d i) (default : HIx 1) O)
      ⊢ iprop((limRes d i O W q Mb -∗ wp frame (wpE (defs₀ (F := F)) 𝒱₀ (thr d i) none) Set.univ
              (k (stepM (mmV.view.read (Elt F) Mb)) (biasM (mmV.view.read (Elt F) Mb))) Q)
        -∗ wp frame (wpE (defs₀ (F := F)) 𝒱₀ (thr d i) none) Set.univ
            (do
              let ⟨v2, v11, v21, v27⟩ ← limits₁ (F := F) i
              let ⟨st, bi⟩ ← limits₂ (F := F) i v2 v11 v21 v27
              k st bi) Q) := by
  rw [wp_bind]
  iintro H Hk
  iapply (limits₁_spec d i O W q Mb _ _ rfl) $$ H
  iintro %v2 ⟨Hmm, Hm, Hlo, Hhi, Hs, HO⟩
  rw [wp_bind]
  iapply (limits₂_spec d i q Mb v2 _ _ _) $$ [Hlo Hhi]
  · isplitl [Hlo]; · iexact Hlo
    iexact Hhi
  iintro ⟨Hlo, Hhi⟩
  iapply Hk
  unfold limRes
  isplitl [Hmm]; · iexact Hmm
  isplitl [Hm]; · iexact Hm
  isplitl [Hlo]; · iexact Hlo
  isplitl [Hhi]; · iexact Hhi
  isplitl [Hs]; · iexact Hs
  iexact HO

end Tile

end Cert.Proof.Kern

end
-- ==== Proof.Tile.lean ====
/-
  A tile's whole task, for any float values: from its thirty-two chunks of the input and of the labels, a share of the
  minima and maxima, and its own buffers and semaphores, it leaves its chunks of the labels made and everything else as it
  was.
-/
module

public import proofs.«01_k».proof.Proof.Limits

@[expose] public section

noncomputable section

namespace Cert.Proof.Kern

open Cert.KernelIdeal Cert.KernelIdeal.Gen
open Idealize.ShloMosaic Idealize.ShloMosaic.ValueIdx
open Idealize.ShloMosaic.SparseCore (S V)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (MayWaits)

variable {F : FTy → Type} [FloatOps F]

local notation "𝕄" => MT nD τ sig (HIx 1) (Elt F) ℕ UU ℕ

/-- The launch of the SparseCore call. -/
abbrev K : SparseCore.Cfg τ sig (Pipeline.Sig Λ₀ (Fin 1) fun p => (pcfgs (F := F) p).Adm) 1 := sc (F := F)

/-! ## A list of things out of a finite set of them -/

/-- What a list of distinct members of a finite set holds, and what the others hold. -/
theorem bigSep_list {I : Type} [DecidableEq I] (Φ : I → sProp 𝕄) :
    ∀ (l : List I) (s : Finset I), l.Nodup → (∀ x ∈ l, x ∈ s) →
      bigSep s Φ = l.foldr (fun i P => iprop(Φ i ∗ P)) (bigSep (s \ l.toFinset) Φ)
  | [], s, _, _ => by simp
  | x :: l, s, hn, hs => by
    rw [SparseCore.bigSep_erase' (hs x List.mem_cons_self), bigSep_list Φ l (s.erase x) (List.nodup_cons.mp hn).2
      fun y hy => Finset.mem_erase.mpr ⟨fun e => (List.nodup_cons.mp hn).1 (e ▸ hy), hs y (List.mem_cons_of_mem _ hy)⟩,
      List.foldr_cons, List.toFinset_cons, Finset.erase_sdiff_comm, ← Finset.sdiff_insert]

section Tile

variable (d : Dev nD) (i : grid1.Coords)

/-- The tile's buffers, -/
def bufs : List (Ref sig .scVector) :=
  [cc1_scratch0, cc1_scratch1, cc1_scratch2, cc1_scratch3, cc1_scratch4, cc1_scratch5, cc1_scratch6, cc1_scratch7]

/-- and semaphores. -/
def sems : List (DmaSem sig) :=
  [cc1_scratch8.sem, cc1_scratch9.sem, cc1_scratch10.sem, cc1_scratch11.sem, cc1_scratch12.sem, cc1_scoped0.sem]

theorem bufs_nodup : bufs.Nodup := by decide

theorem sems_nodup : sems.Nodup := by decide

theorem sems_scoped : ∀ s ∈ sems, (SemLoc.dma s : SemLoc sig).isScoped .scVector = true := by decide

/-- A buffer of the subcore's own at some contents. -/
def anyB (b : Ref sig .scVector) : sProp 𝕄 := iprop(∃ f, (View.whole b).loc (thr d i) ↦[(View.whole b).set]{fullShare} f)

/-- The subcore's own buffers that the tile doesn't use, -/
def otherBufs : sProp 𝕄 :=
  bigSep (ownRefs (τ := τ) (.scVector ((i 0).castLE hcore1) ((i 1).castLE hsub1))
    \ (bufs.map (Proc.scVector ((i 0).castLE hcore1) ((i 1).castLE hsub1)).devRef).toFinset)
    fun b => iprop(∃ f, ((d, b) : Loc nD τ sig) ↦{fullShare} f)

/-- and semaphores. -/
def otherSems : sProp 𝕄 :=
  bigSep (ownCells (thr d i) \ (sems.map fun s => ((thr d i, .dma s) : GSem nD τ sig)).toFinset) fun g => semVal g 0

theorem own_whole (b : Ref sig .scVector) :
    (iprop(∃ f, (((d, (Proc.scVector ((i 0).castLE hcore1) ((i 1).castLE hsub1)).devRef b) : Loc nD τ sig) ↦{fullShare} f)) : sProp 𝕄)
      = anyB d i b := by
  refine congrArg BIBase.exists (funext fun f => ?_)
  exact congrArg (fun S => (((d, (Proc.scVector ((i 0).castLE hcore1) ((i 1).castLE hsub1)).devRef b) : Loc nD τ sig) ↦[S]{fullShare} f : sProp 𝕄))
    (View.set_whole b).symm

/-- The subcore's own buffers are the tile's and the others. -/
theorem ownBufs_eq :
    (ownBufs (thr d i) : sProp 𝕄)
      = iprop(anyB d i cc1_scratch0 ∗ anyB d i cc1_scratch1 ∗ anyB d i cc1_scratch2 ∗ anyB d i cc1_scratch3 ∗ anyB d i cc1_scratch4
          ∗ anyB d i cc1_scratch5 ∗ anyB d i cc1_scratch6 ∗ anyB d i cc1_scratch7 ∗ otherBufs d i) := by
  unfold SparseCore.Cfg.ownBufs
  rw [bigSep_list _ (bufs.map (Proc.scVector ((i 0).castLE hcore1) ((i 1).castLE hsub1)).devRef) _
    (List.Nodup.map (Proc.devRef_injective _) bufs_nodup) ?_]
  · show List.foldr _ (otherBufs d i) _ = _
    unfold bufs
    simp only [List.map_cons, List.map_nil, List.foldr_cons, List.foldr_nil, ← own_whole]
  intro b hb
  obtain ⟨r, hr, rfl⟩ := List.mem_map.mp hb
  refine SparseCore.Cfg.mem_ownRefs_of_owner (p := Proc.scVector ((i 0).castLE hcore1) ((i 1).castLE hsub1)) ?_
  unfold bufs at hr
  fin_cases hr <;> rfl

/-- The subcore's own semaphores are the tile's and the others. -/
theorem ownSems_eq :
    (ownSems0 (thr d i) : sProp 𝕄)
      = iprop(semVal (thr d i, .dma cc1_scratch8.sem) 0 ∗ semVal (thr d i, .dma cc1_scratch9.sem) 0
          ∗ semVal (thr d i, .dma cc1_scratch10.sem) 0 ∗ semVal (thr d i, .dma cc1_scratch11.sem) 0
          ∗ semVal (thr d i, .dma cc1_scratch12.sem) 0 ∗ semVal (thr d i, .dma cc1_scoped0.sem) 0 ∗ otherSems d i) := by
  unfold SparseCore.Cfg.ownSems0
  rw [bigSep_list _ (sems.map fun s => ((thr d i, .dma s) : GSem nD τ sig)) _
    (List.Nodup.map (fun a b h => by simpa using h) sems_nodup) ?_]
  · show List.foldr _ (otherSems d i) _ = _
    unfold sems
    simp only [List.map_cons, List.map_nil, List.foldr_cons, List.foldr_nil]
  intro g hg
  obtain ⟨s, hs, rfl⟩ := List.mem_map.mp hg
  exact mem_ownCells.mpr ⟨rfl, sems_scoped s hs⟩

/-! ## What a task is handed and hands back -/

/-- The tile's chunks of the input, a share of the minima and maxima, and its chunks of the labels. -/
def task (q : PosShare TreeShare) (X : Buf (Elt F) (xLoc d)) (Mb : Buf (Elt F) (mmLoc d)) (o : Buf (Elt F) (oLoc d)) : sProp 𝕄 :=
  iprop(bigSep (Finset.range 32) (xPc d i X) ∗ (mmV.view.loc (thr d i) ↦[mmV.view.set]{q} Mb) ∗ bigSep (Finset.range 32) (oPc d i o))

theorem storable_pts (ℓ : Loc nD τ sig) (I : Finset (Loc.ty ℓ).shape.Idx) (q : PosShare TreeShare) (f : Buf (Elt F) ℓ) :
    BI.Storable (upEmb : UEmb _ 𝕄) (ℓ ↦[I]{q} f : sProp 𝕄) := inferInstance

instance (X : Buf (Elt F) (xLoc d)) (r : ℕ) : BI.Storable (upEmb : UEmb _ 𝕄) (xPc d i X r) := by
  exact storable_pts _ _ _ _

instance (o : Buf (Elt F) (oLoc d)) (r : ℕ) : BI.Storable (upEmb : UEmb _ 𝕄) (oPc d i o r) := by
  exact storable_pts _ _ _ _

instance (q : PosShare TreeShare) (X : Buf (Elt F) (xLoc d)) (Mb : Buf (Elt F) (mmLoc d)) (o : Buf (Elt F) (oLoc d)) :
    BI.Storable (upEmb : UEmb _ 𝕄) (task d i q X Mb o) := by
  unfold task
  have : BI.Storable (upEmb : UEmb _ 𝕄) (mmV.view.loc (thr d i) ↦[mmV.view.set]{q} Mb) :=
    storable_pts _ _ _ _
  infer_instance

/-- The labels of the input `X`, the minima and maxima being `Mb`. -/
def labels (X : Buf (Elt F) (xLoc d)) (Mb : Buf (Elt F) (mmLoc d)) : Buf (Elt F) (oLoc d) :=
  labX (stepM (mmV.view.read (Elt F) Mb)) (biasM (mmV.view.read (Elt F) Mb)) X

/-- A chunk of the labels is the labels of the chunk: a chunk starts at a multiple of sixteen. -/
theorem read_labX (st bi : FVec F S16 .f32) (X : Buf (Elt F) (xLoc d)) (r : ℕ) :
    (oC i r).view.read (Elt F) (labX st bi X) = labC st bi ((xC i r).view.read (Elt F) X) := by
  funext y
  have hl : lane (((Rect.unit (s := S16777216) (k1_off65 i (BitVec.ofNat 32 (16384 * (Fin.ofNat 32 r).val))) S16384.size
      (k1_off65_inb i (Fin.ofNat 32 r))).emb y) 0).val = lane (y 0).val := by
    funext a
    refine Fin.ext ?_
    show (k1_off65 i (BitVec.ofNat 32 (16384 * (Fin.ofNat 32 r).val)) 0 + 1 * (y 0).val) % 16 = (y 0).val % 16
    rw [k1_off65_eq]
    show (1048576 * (i 1).val + 524288 * (i 0).val + 16384 * (Fin.ofNat 32 r).val + 1 * (y 0).val) % 16 = _
    omega
  show lab st bi _ (lane _) = lab st bi _ (lane _)
  rw [← hl]
  rfl

/-- The buffers and semaphores of the chunks, free. -/
def free : sProp 𝕄 :=
  iprop((inIdle (F := F) d i 0 ∗ inIdle (F := F) d i 1 ∗ inIdle (F := F) d i 2) ∗ (outIdle (F := F) d i 0 ∗ outIdle (F := F) d i 1))

theorem any_iff {s : Shape} {e : EltTy} {sp : Space} (b : Memref sig .scVector sp s e) (P : Buf (Elt F) (b.view.loc (thr d i)) → sProp 𝕄) :
    (iprop(∃ w, ∃ f, ⌜b.view.read (Elt F) f = w⌝ ∗ P f) : sProp 𝕄) ⊣⊢ iprop(∃ f, P f) := by
  constructor
  · iintro ⟨%w, %f, -, H⟩
    iexists f
    iexact H
  · iintro ⟨%f, H⟩
    iexists _, f
    isplitr; · ipureintro; rfl
    iexact H

theorem out0_any : outAny (F := F) d i 0 = anyB d i cc1_scratch6 := rfl
theorem out1_any : outAny (F := F) d i 1 = anyB d i cc1_scratch7 := rfl
theorem m_any : (iprop(∃ M, mHas d i M) : sProp 𝕄) ⊣⊢ anyB (F := F) d i cc1_scratch0 := any_iff d i mV _
theorem lo_any : (iprop(∃ w, has d i loV w) : sProp 𝕄) ⊣⊢ anyB (F := F) d i cc1_scratch1 := any_iff d i loV _
theorem hi_any : (iprop(∃ w, has d i hiV w) : sProp 𝕄) ⊣⊢ anyB (F := F) d i cc1_scratch2 := any_iff d i hiV _
theorem in0_any : (iprop(∃ w, inHas d i 0 w) : sProp 𝕄) ⊣⊢ anyB (F := F) d i cc1_scratch3 := any_iff d i (inB 0) _
theorem in1_any : (iprop(∃ w, inHas d i 1 w) : sProp 𝕄) ⊣⊢ anyB (F := F) d i cc1_scratch4 := any_iff d i (inB 1) _
theorem in2_any : (iprop(∃ w, inHas d i 2 w) : sProp 𝕄) ⊣⊢ anyB (F := F) d i cc1_scratch5 := any_iff d i (inB 2) _

/-- What the tile's body needs of its own, out of what the subcore has. -/
theorem own_out (O : CellTallies nD τ sig (HIx 1)) (W : Waits sig (HIx 1)) (q : PosShare TreeShare) (Mb : Buf (Elt F) (mmLoc d)) :
    iprop((mmV.view.loc (thr d i) ↦[mmV.view.set]{q} Mb) ∗ ownBufs (thr d i) ∗ ownSems0 (thr d i) ∗ owing d i O W)
      ⊢ (iprop(limRes d i O W q Mb ∗ free d i ∗ otherBufs d i ∗ otherSems d i) : sProp 𝕄) := by
  rw [ownSems_eq, ownBufs_eq]
  unfold limRes free inIdle outIdle
  rw [out0_any, out1_any]
  iintro ⟨Hmm, ⟨Hb0, Hb1, Hb2, Hb3, Hb4, Hb5, Hb6, Hb7, Hbufs⟩, ⟨Hs8, Hs9, Hs10, Hs11, Hs12, Hs0, Hsems⟩, HO⟩
  isplitl [Hmm Hb0 Hb1 Hb2 Hs0 HO]
  · isplitl [Hmm]; · iexact Hmm
    isplitl [Hb0]; · iapply (m_any d i).2; iexact Hb0
    isplitl [Hb1]; · iapply (lo_any d i).2; iexact Hb1
    isplitl [Hb2]; · iapply (hi_any d i).2; iexact Hb2
    isplitl [Hs0]; · iexact Hs0
    iexact HO
  isplitl [Hb3 Hb4 Hb5 Hs8 Hs9 Hs10 Hb6 Hb7 Hs11 Hs12]
  · isplitl [Hb3 Hb4 Hb5 Hs8 Hs9 Hs10]
    · isplitl [Hb3 Hs8]
      · isplitl [Hb3]; · iapply (in0_any d i).2; iexact Hb3
        iexact Hs8
      isplitl [Hb4 Hs9]
      · isplitl [Hb4]; · iapply (in1_any d i).2; iexact Hb4
        iexact Hs9
      isplitl [Hb5]; · iapply (in2_any d i).2; iexact Hb5
      iexact Hs10
    isplitl [Hb6 Hs11]
    · isplitl [Hb6]; · iexact Hb6
      iexact Hs11
    isplitl [Hb7]; · iexact Hb7
    iexact Hs12
  isplitl [Hbufs]; · iexact Hbufs
  iexact Hsems

/-- And back. -/
theorem own_back (O : CellTallies nD τ sig (HIx 1)) (W : Waits sig (HIx 1)) (q : PosShare TreeShare) (Mb : Buf (Elt F) (mmLoc d)) :
    (iprop(limRes d i O W q Mb ∗ free d i ∗ otherBufs d i ∗ otherSems d i) : sProp 𝕄)
      ⊢ iprop((mmV.view.loc (thr d i) ↦[mmV.view.set]{q} Mb) ∗ ownBufs (thr d i) ∗ ownSems0 (thr d i) ∗ owing d i O W) := by
  rw [ownSems_eq, ownBufs_eq]
  unfold limRes free inIdle outIdle
  rw [out0_any, out1_any]
  iintro ⟨⟨Hmm, Hb0, Hb1, Hb2, Hs0, HO⟩, ⟨⟨⟨Hb3, Hs8⟩, ⟨Hb4, Hs9⟩, ⟨Hb5, Hs10⟩⟩, ⟨⟨Hb6, Hs11⟩, ⟨Hb7, Hs12⟩⟩⟩, Hbufs, Hsems⟩
  isplitl [Hmm]; · iexact Hmm
  isplitl [Hb0 Hb1 Hb2 Hb3 Hb4 Hb5 Hb6 Hb7 Hbufs]
  · isplitl [Hb0]; · iapply (m_any d i).1; iexact Hb0
    isplitl [Hb1]; · iapply (lo_any d i).1; iexact Hb1
    isplitl [Hb2]; · iapply (hi_any d i).1; iexact Hb2
    isplitl [Hb3]; · iapply (in0_any d i).1; iexact Hb3
    isplitl [Hb4]; · iapply (in1_any d i).1; iexact Hb4
    isplitl [Hb5]; · iapply (in2_any d i).1; iexact Hb5
    isplitl [Hb6]; · iexact Hb6
    isplitl [Hb7]; · iexact Hb7
    iexact Hbufs
  isplitl [Hs0 Hs8 Hs9 Hs10 Hs11 Hs12 Hsems]
  · isplitl [Hs8]; · iexact Hs8
    isplitl [Hs9]; · iexact Hs9
    isplitl [Hs10]; · iexact Hs10
    isplitl [Hs11]; · iexact Hs11
    isplitl [Hs12]; · iexact Hs12
    isplitl [Hs0]; · iexact Hs0
    iexact Hsems
  iexact HO

/-- The tile's program: the limits, then the chunks. -/
theorem tile_run (q : PosShare TreeShare) (X : Buf (Elt F) (xLoc d)) (Mb : Buf (Elt F) (mmLoc d))
    (o : Buf (Elt F) (oLoc d)) (O : CellTallies nD τ sig (HIx 1)) (W : Waits sig (HIx 1)) :
    iprop(MayWaits (thr d i) (default : HIx 1) O ∗ limRes d i O W q Mb ∗ free d i
        ∗ bigSep (Finset.range 32) (xPc d i X) ∗ bigSep (Finset.range 32) (oPc d i o))
      ⊢ wp frame (wpE (defs₀ (F := F)) 𝒱₀ (thr d i) none) Set.univ (printed i)
          fun _ => iprop(limRes d i O W q Mb ∗ free d i
        ∗ bigSep (Finset.range 32) (xPc d i X) ∗ bigSep (Finset.range 32) (oPc d i (labels d X Mb))) := by
  rw [printed_eq]
  unfold tileProg
  iintro ⟨#Hmw, Hl, Hf, Hx, Ho⟩
  iapply (limits_spec d i O W q Mb (fun st bi => do fetch i 0; fetch i 1; chain i st bi 32)) $$ [Hl Hmw]
  · isplitl [Hl]; · iexact Hl
    iexact Hmw
  unfold limRes free
  iintro ⟨Hmm, HM, Hlo, Hhi, Hs0, HO⟩
  icases Hf with ⟨Hi, Hoi⟩
  iapply (wp_wand_r frame _ _)
  isplitl [Hi Hoi Hx Ho HO]
  · iapply (chunks_spec d i X o (labels d X Mb) O W _ _ (fun r => read_labX d i _ _ X r))
    isplitl [Hi]; · iexact Hi
    isplitl [Hoi]; · iexact Hoi
    isplitl [Hx]; · iexact Hx
    isplitl [Ho]; · iexact Ho
    isplitl [HO]; · iexact HO
    iexact Hmw
  iintro %u H
  unfold Fin_
  icases H with ⟨Hi, Hoi, Hx, Ho, HO⟩
  isplitl [Hmm HM Hlo Hhi Hs0 HO]
  · isplitl [Hmm]; · iexact Hmm
    isplitl [HM]; · iexact HM
    isplitl [Hlo]; · iexact Hlo
    isplitl [Hhi]; · iexact Hhi
    isplitl [Hs0]; · iexact Hs0
    iexact HO
  isplitl [Hi Hoi]
  · isplitl [Hi]; · iexact Hi
    iexact Hoi
  isplitl [Hx]; · iexact Hx
  iexact Ho

/-- The tile's task. -/
theorem tile_body (hF : (K (F := F)).Facts) (q : PosShare TreeShare) (X : Buf (Elt F) (xLoc d)) (Mb : Buf (Elt F) (mmLoc d))
    (o : Buf (Elt F) (oLoc d)) (O : CellTallies nD τ sig (HIx 1)) (W : Waits sig (HIx 1)) (hO : ∀ g, O g none = 0) :
    iprop(levAts (K (F := F)).L (K (F := F)).lev ∗ emp ∗ task d i q X Mb o
        ∗ scopedBufs (thr d i) ∗ scopedSems0 (thr d i) ∗ owes (thr d i) O W)
      ⊢ wp frame (wpE (defs₀ (F := F)) 𝒱₀ (thr d i) none) Set.univ (printed i)
          fun _ => iprop(task d i q X Mb (labels d X Mb)
            ∗ scopedBufs (thr d i) ∗ scopedSems0 (thr d i) ∗ ∃ W', ⌜∀ p ∈ W', p ∈ W ∨ p.2 = none⌝ ∗ owes (thr d i) O W') := by
  rw [(K (F := F)).scopedBufs_V hF d _ _, SparseCore.Cfg.scopedSems0_V (Val := Elt F) d _ _]
  unfold task
  iintro ⟨#Hlv, -, ⟨Hx, Hmm, Ho⟩, Hb, Hs, HO⟩
  ihave #Hmw := (show levAts (K (F := F)).L (K (F := F)).lev ⊢ MayWaits (thr d i) (default : HIx 1) O from
    (K (F := F)).mayWaits_none (thr := thr d i) hO) $$ Hlv
  ihave H := (own_out d i O W q Mb) $$ [Hmm Hb Hs HO]
  · isplitl [Hmm]; · iexact Hmm
    isplitl [Hb]; · iexact Hb
    isplitl [Hs]; · iexact Hs
    unfold owing
    iexists W
    isplitr; · ipureintro; exact fun p hp => Or.inl hp
    iexact HO
  icases H with ⟨Hl, Hf, Hrest⟩
  iapply (wp_wand_r frame _ _)
  isplitl [Hl Hf Hx Ho]
  · iapply (tile_run d i q X Mb o O W)
    isplitr; · iexact Hmw
    isplitl [Hl]; · iexact Hl
    isplitl [Hf]; · iexact Hf
    isplitl [Hx]; · iexact Hx
    iexact Ho
  iintro %u ⟨Hl, Hf, Hx, Ho⟩
  ihave H := (own_back d i O W q Mb) $$ [Hl Hf Hrest]
  · isplitl [Hl]; · iexact Hl
    isplitl [Hf]; · iexact Hf
    iexact Hrest
  icases H with ⟨Hmm, Hb, Hs, HO⟩
  isplitl [Hx Hmm Ho]
  · isplitl [Hx]; · iexact Hx
    isplitl [Hmm]; · iexact Hmm
    iexact Ho
  isplitl [Hb]; · iexact Hb
  isplitl [Hs]; · iexact Hs
  unfold owing
  iexact HO

end Tile

end Cert.Proof.Kern

end
-- ==== Proof.Pieces.lean ====
/-
  The input, the labels and the minima and maxima, cut for the thirty-two tiles: 1024 chunks of each of the long arrays,
  thirty-two to a tile, and of the small one a share to every tile.
-/
module

public import proofs.«01_k».proof.Proof.Tile
public import Idealize.ShloMosaic.Lib.ShareLeaves

@[expose] public section

noncomputable section

namespace Cert.Proof.Kern

open Cert.KernelIdeal Cert.KernelIdeal.Gen
open Idealize.ShloMosaic Idealize.ShloMosaic.ValueIdx
open Idealize.ShloMosaic.TcCoe
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The coordinates of tile `s` of SparseCore `c`. -/
def coordsV (c : Fin 2) (s : Fin 16) : grid1.Coords :=
  fun | 0 => c | 1 => s | ⟨_ + 2, h⟩ => absurd h (Nat.not_lt.2 (Nat.le_add_left _ _))

/-- The number of its chunk `r`: the tile's chunks follow one another, SparseCores take turns. -/
def chunkNo (p : (Fin 2 × Fin 16) × Fin 32) : Fin 1024 := ⟨64 * p.1.2.val + 32 * p.1.1.val + p.2.val, by omega⟩

/-- Each chunk is one tile's, once. -/
def chunkEquiv : (Fin 2 × Fin 16) × Fin 32 ≃ Fin 1024 :=
  Equiv.ofBijective chunkNo ((Fintype.bijective_iff_injective_and_card _).mpr ⟨by
    rintro ⟨⟨c, s⟩, r⟩ ⟨⟨c', s'⟩, r'⟩ h
    have h' : 64 * s.val + 32 * c.val + r.val = 64 * s'.val + 32 * c'.val + r'.val := congrArg Fin.val h
    exact Prod.ext (Prod.ext (Fin.ext (by show c.val = c'.val; omega)) (Fin.ext (by show s.val = s'.val; omega)))
      (Fin.ext (by show r.val = r'.val; omega)), by simp⟩)

/-- The number of a tile. -/
def tileNo (p : Fin 2 × Fin 16) : Fin (2 ^ 5) := ⟨2 * p.2.val + p.1.val, by omega⟩

/-- Each number is one tile's. -/
def tileEquiv : Fin 2 × Fin 16 ≃ Fin (2 ^ 5) :=
  Equiv.ofBijective tileNo ((Fintype.bijective_iff_injective_and_card _).mpr ⟨by
    rintro ⟨c, s⟩ ⟨c', s'⟩ h
    have h' : 2 * s.val + c.val = 2 * s'.val + c'.val := congrArg Fin.val h
    exact Prod.ext (Fin.ext (by show c.val = c'.val; omega)) (Fin.ext (by show s.val = s'.val; omega)), by simp⟩)

/-- The share of the minima and maxima of tile `s` of SparseCore `c`. -/
def mmShare (c : Fin 2) (s : Fin 16) : PosShare TreeShare := ShareLeaves.leaf 5 fullShare (tileNo (c, s))

theorem div1024 : 1024 ∣ S16777216.size 0 := ⟨16384, rfl⟩

/-- The elements of a chunk. -/
abbrev chunkRect (k : Fin 1024) : Rect S16777216 := Rect.part (s := S16777216) (a₀ := 0) div1024 k

theorem rect_eq (c : Fin 2) (s : Fin 16) (r : Fin 32) :
    Rect.unit (s := S16777216) (k1_off65 (coordsV c s) (BitVec.ofNat 32 (16384 * r.val))) S16384.size (k1_off65_inb (coordsV c s) r)
      = chunkRect (chunkNo ((c, s), r)) := by
  unfold chunkRect Rect.part Rect.block
  congr 1 <;> funext a
  · rw [k1_off65_eq]
    match a with
    | 0 =>
      show 1048576 * s.val + 524288 * c.val + 16384 * r.val = (if _ then _ else _) * (if _ then _ else _)
      simp [chunkNo]
      omega
  · match a with
    | 0 => simp [Shape.partSize]

theorem set_xC (c : Fin 2) (s : Fin 16) (r : Fin 32) : (xC (coordsV c s) r.val).view.set = (chunkRect (chunkNo ((c, s), r))).set := by
  have e : Fin.ofNat 32 r.val = r := Fin.ext (Nat.mod_eq_of_lt r.isLt)
  unfold xC
  show (xV.view.slice (Rect.unit (s := S16777216) (k1_off65 (coordsV c s) (BitVec.ofNat 32 (16384 * (Fin.ofNat 32 r.val).val))) S16384.size
    (k1_off65_inb (coordsV c s) (Fin.ofNat 32 r.val)))).set = _
  rw [View.set_slice, rect_eq, e]
  exact Finset.map_refl

theorem set_oC (c : Fin 2) (s : Fin 16) (r : Fin 32) : (oC (coordsV c s) r.val).view.set = (chunkRect (chunkNo ((c, s), r))).set := by
  have e : Fin.ofNat 32 r.val = r := Fin.ext (Nat.mod_eq_of_lt r.isLt)
  unfold oC
  show (oV.view.slice (Rect.unit (s := S16777216) (k1_off65 (coordsV c s) (BitVec.ofNat 32 (16384 * (Fin.ofNat 32 r.val).val))) S16384.size
    (k1_off65_inb (coordsV c s) (Fin.ofNat 32 r.val)))).set = _
  rw [View.set_slice, rect_eq, e]
  exact Finset.map_refl

/-- What an index set of the first numbers holds, each number once. -/
theorem bigSep_range_fin (n : ℕ) (Φ : ℕ → sProp 𝕄) : bigSep (Finset.range n) Φ = bigSep Finset.univ fun i : Fin n => Φ i.val := by
  rw [show Finset.range n = (Finset.univ : Finset (Fin n)).map Fin.valEmbedding by ext x; simp [Fin.exists_iff], bigSep_map]
  rfl

/-- The input whole is every tile's chunks of it. -/
theorem x_pieces (d : Dev nD) (X : Buf (Elt F) (xLoc d)) :
    (xLoc d ↦{fullShare} X : sProp 𝕄)
      = bigSep Finset.univ fun c : Fin 2 => bigSep Finset.univ fun s : Fin 16 => bigSep (Finset.range 32) (xPc d (coordsV c s) X) := by
  have h := pointsTo_biUnion (Ix := HIx 1) (Val := Elt F) (Name := ℕ) (U := UU) (Lvl := ℕ) (q := fullShare) (f := X) Finset.univ (ℓ := xLoc d)
    (fun k : Fin 1024 => (chunkRect k).set) fun i _ j _ h => Rect.part_disjoint div1024 h
  rw [show (Finset.univ : Finset (Fin 1024)).biUnion (fun k => (chunkRect k).set) = Finset.univ from Rect.biUnion_part div1024] at h
  refine h.trans ?_
  rw [bigSep_univ_equiv chunkEquiv, bigSep_univ_prod, bigSep_univ_prod]
  refine bigSep_congr fun c _ => bigSep_congr fun s _ => ?_
  rw [bigSep_range_fin]
  refine bigSep_congr fun r _ => ?_
  unfold xPc
  rw [set_xC]
  rfl

/-- The labels whole are every tile's chunks of them. -/
theorem o_pieces (d : Dev nD) (o : Buf (Elt F) (oLoc d)) :
    (oLoc d ↦{fullShare} o : sProp 𝕄)
      = bigSep Finset.univ fun c : Fin 2 => bigSep Finset.univ fun s : Fin 16 => bigSep (Finset.range 32) (oPc d (coordsV c s) o) := by
  have h := pointsTo_biUnion (Ix := HIx 1) (Val := Elt F) (Name := ℕ) (U := UU) (Lvl := ℕ) (q := fullShare) (f := o) Finset.univ (ℓ := oLoc d)
    (fun k : Fin 1024 => (chunkRect k).set) fun i _ j _ h => Rect.part_disjoint div1024 h
  rw [show (Finset.univ : Finset (Fin 1024)).biUnion (fun k => (chunkRect k).set) = Finset.univ from Rect.biUnion_part div1024] at h
  refine h.trans ?_
  rw [bigSep_univ_equiv chunkEquiv, bigSep_univ_prod, bigSep_univ_prod]
  refine bigSep_congr fun c _ => bigSep_congr fun s _ => ?_
  rw [bigSep_range_fin]
  refine bigSep_congr fun r _ => ?_
  unfold oPc
  rw [set_oC]
  rfl

/-- The minima and maxima whole are every tile's share of them. -/
theorem mm_pieces (d : Dev nD) (Mb : Buf (Elt F) (mmLoc d)) :
    (mmLoc d ↦{fullShare} Mb : sProp 𝕄)
      = bigSep Finset.univ fun c : Fin 2 => bigSep Finset.univ fun s : Fin 16 =>
          mmV.view.loc (thr d (coordsV c s)) ↦[mmV.view.set]{mmShare c s} Mb := by
  rw [ShareLeaves.pointsTo_leaves Finset.univ Mb 5 fullShare, bigSep_univ_equiv tileEquiv, bigSep_univ_prod]
  refine bigSep_congr fun c _ => bigSep_congr fun s _ => ?_
  rw [show mmV.view.set = Finset.univ from View.set_whole _]
  rfl

/-- All three whole are every tile's task. -/
theorem tasks_eq (d : Dev nD) (X : Buf (Elt F) (xLoc d)) (Mb : Buf (Elt F) (mmLoc d)) (o : Buf (Elt F) (oLoc d)) :
    (bigSep Finset.univ fun c : Fin 2 => bigSep Finset.univ fun s : Fin 16 => task d (coordsV c s) (mmShare c s) X Mb o)
      = iprop((xLoc d ↦{fullShare} X) ∗ (mmLoc d ↦{fullShare} Mb) ∗ (oLoc d ↦{fullShare} o) : sProp 𝕄) := by
  rw [x_pieces, mm_pieces, o_pieces]
  unfold task
  simp only [bigSep_sep']

end Cert.Proof.Kern
-- ==== Proof.Region.lean ====
/-
  The first kernel, for any float values: at each of its eight points it takes 16384 rows of 128 lanes and leaves, per
  quarter of them and lane, the smallest and the largest. Around it, its pipeline: from the rows of the input, the rows of
  minima and maxima.
-/
module

public import proofs.«01_k».proof.Proof.Tile
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.Regions
public import Idealize.ShloMosaic.Lib.Pipeline.RegionArrays
public import Idealize.ShloMosaic.Lib.Pipeline.ValueKit
public import Idealize.ShloMosaic.Lib.Writes

@[expose] public section

noncomputable section

namespace Cert.Proof.Kern

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The body -/

/-- What a point leaves of the rows `w`: the four quarters' minima per lane, then their maxima. -/
def lims (w : S16384x128.Idx → Elt F .f32) : S8x128.Idx → Elt F .f32 := fun y =>
  if h : (y 0).val < 4 then k0_pay2 w (ValueIdx.ix2 ⟨(y 0).val, h⟩ (y 1) : S4x128.Idx)
  else k0_pay3 w (ValueIdx.ix2 ⟨(y 0).val - 4, by have := (y 0).isLt; change (y 0).val < 8 at this; omega⟩ (y 1) : S4x128.Idx)

/-- The block after its two stores, whatever it held before. -/
theorem read_stores {sp : Space} {κ : Kind} (v : View sig κ sp S8x128 .f32) (f : v.ty.Contents (Elt F)) (w : S16384x128.Idx → Elt F .f32) :
    v.read (Elt F) (v.writes (Elt F) f
      [⟨Rect.unit (s := S8x128) ![4, 0] S4x128.size inb_S8x128_S4x128_4_0, k0_pay3 w⟩,
       ⟨Rect.unit (s := S8x128) ![0, 0] S4x128.size inb_S8x128_S4x128_0_0, k0_pay2 w⟩]) = lims w := by
  funext y
  have hy0 : (y 0).val < 8 := (y 0).isLt
  have hy1 : (y 1).val < 128 := (y 1).isLt
  by_cases h : (y 0).val < 4
  · rw [View.read_writes_cons_miss_of_axis v f _ _ y 0 4 4 rfl rfl rfl (.inl h)]
    rw [View.read_writes_cons_hit_of_coords v f _ _ _ (ValueIdx.ix2 ⟨(y 0).val, h⟩ (y 1) : S4x128.Idx) y (fun a => by
      match a with
      | 0 => show (y 0).val = 0 + 1 * (y 0).val; omega
      | 1 => show (y 1).val = 0 + 1 * (y 1).val; omega)]
    unfold lims; rw [dif_pos h]
  · rw [View.read_writes_cons_hit_of_coords v f _ _ _ (ValueIdx.ix2 ⟨(y 0).val - 4, by omega⟩ (y 1) : S4x128.Idx) y (fun a => by
      match a with
      | 0 => show (y 0).val = 4 + 1 * ((y 0).val - 4); omega
      | 1 => show (y 1).val = 0 + 1 * (y 1).val; omega)]
    unfold lims; rw [dif_neg h]

/-- A load of all the rows is what they hold. -/
theorem read_rows {sp : Space} {κ : Kind} (v : View sig κ sp S16384x128 .f32) (f : v.ty.Contents (Elt F)) :
    v.readAt (Elt F) (Rect.unit (s := S16384x128) ![0, 0] S16384x128.size inb_S16384x128_S16384x128_0_0).toLoadRect f = v.read (Elt F) f := by
  funext y
  refine congrArg (v.read (Elt F) f) (funext fun a => Fin.ext ?_)
  match a with
  | 0 => show 0 + 1 * (y 0).val = (y 0).val; omega
  | 1 => show 0 + 1 * (y 1).val = (y 1).val; omega

/-- The body, on rows `w` and any block: it leaves the rows and puts their minima and maxima in the block. -/
theorem body_spec (c : Dev nD) (i : grid0.Coords) (m1 : Memref sig .tc .vmem S16384x128 .f32) (h1 : m1.IsWhole)
    (m2 : Memref sig .tc .vmem S8x128 .f32) (h2 : m2.IsWhole) (w : S16384x128.Idx → Elt F .f32) (g : S8x128.Idx → Elt F .f32)
    (Q : PUnit → sProp 𝕄) :
    iprop(owns (c : Thread nD τ) m1 fullShare w ∗ owns (c : Thread nD τ) m2 fullShare g
        ∗ (owns (c : Thread nD τ) m1 fullShare w ∗ owns (c : Thread nD τ) m2 fullShare (lims w) -∗ Q ⟨⟩))
      ⊢ wp frame (wpE (defs₀ (F := F)) 𝒱₀ (c : Thread nD τ) none) Set.univ (cc0_body (F := F) i m1 h1 m2 h2) Q := by
  rw [cc0_body_eq_skeleton]
  unfold cc0_body_skel owns
  simp only [Prog.lift, bind, Prog.bind, Pure.pure]
  iintro ⟨⟨%f1, %hf1, H1⟩, ⟨%f2, %hf2, H2⟩, HQ⟩
  iapply (wp_load 𝒱₀ (c : Thread nD τ) none Set.univ (m := m1) (View.setOn_subset_set _ _)) $$ H1
  iintro H1
  rw [read_rows, hf1]
  iapply (wp_load 𝒱₀ (c : Thread nD τ) none Set.univ (m := m2) (View.setOn_subset_set _ _)) $$ H2
  iintro H2
  iapply (wp_store_writes₀ 𝒱₀ (c : Thread nD τ) none Set.univ (m := m2)
    (r := Rect.unit (s := S8x128) ![0, 0] S4x128.size inb_S8x128_S4x128_0_0) (w := k0_pay2 w) (f := f2) (S := m2.view.set)
    (Finset.Subset.trans (Memref.setOn_access_subset_setOn _ _ _) (View.setOn_subset_set _ _))) $$ H2
  iintro H2
  iapply (wp_load 𝒱₀ (c : Thread nD τ) none Set.univ (m := m2) (View.setOn_subset_set _ _)) $$ H2
  iintro H2
  iapply (wp_store_writes 𝒱₀ (c : Thread nD τ) none Set.univ (m := m2)
    (r := Rect.unit (s := S8x128) ![4, 0] S4x128.size inb_S8x128_S4x128_4_0) (w := k0_pay3 w) (f := f2) (S := m2.view.set)
    (L := [⟨Rect.unit (s := S8x128) ![0, 0] S4x128.size inb_S8x128_S4x128_0_0, k0_pay2 w⟩])
    (Finset.Subset.trans (Memref.setOn_access_subset_setOn _ _ _) (View.setOn_subset_set _ _))) $$ H2
  iintro H2
  rw [wp_ret]
  imodintro
  iapply HQ
  isplitl [H1]
  · iexists f1; isplitr; · ipureintro; exact hf1
    iexact H1
  iexists _; isplitr
  rotate_left
  · iexact H2
  ipureintro
  exact read_stores m2.view f2 w

/-! ## The pipeline's data -/

section Region

variable (A0 : (c : Dev nD) → Buf (Elt F) ((c : Thread nD τ).loc main_v0)) (A1 : (c : Dev nD) → Buf (Elt F) ((c : Thread nD τ).loc main_v1))

/-- The rows that point `t` takes. -/
abbrev rows (c : Dev nD) (t : Fin cfg0.N) : S16384x128.Idx → Elt F .f32 := (win0_0.blk t).view.read (Elt F) (A0 c)

/-- The proof data on a core that owes `O c` and whose recorded waits are at level `b` at most: the rows stay, the block
    becomes the rows' minima and maxima. -/
def dats (O : (c : Dev nD) → CellTallies nD τ sig (HIx 1)) (b : ℕ) (_ : Fin 1) (c : Dev nD) : Dat τ (Elt F) (HIx 1) ℕ UU ℕ cfg0 c where
  A w := match w with
    | ⟨0, _⟩ => A0 c
    | ⟨1, _⟩ => A1 c
  after w t := match w with
    | ⟨0, _⟩ => rows A0 c t
    | ⟨1, _⟩ => lims (rows A0 c t)
  Φ _ := iprop(emp)
  q _ := fullShare
  owed _ := O c
  recorded _ := {p | (K (F := F)).lev ((c : Thread nD τ), p.1) p.2 ≤ b}

variable (O : (c : Dev nD) → CellTallies nD τ sig (HIx 1)) (b : ℕ)

/-- When the body runs, the first window's buffer holds the point's rows. -/
theorem before_rows (c : Dev nD) (t : Fin cfg0.N) (d : (cfg0.win 0).block.Idx → Elt F (cfg0.win 0).elt) :
    (dats A0 A1 O b 0 c).before 0 t d = rows A0 c t := by
  unfold Dat.before; rw [if_pos (fetch0_0 t)]; rfl

/-- The body obligation. -/
theorem body_obligation (c : Dev nD) : BodyObligation (dats A0 A1 O b 0 c) (defs₀ (F := F)) 𝒱₀ none Set.univ := fun t => by
  rw [bigSep_W0, bigSep_W0]
  change _ ⊢ wp _ _ _ (bodyAt0 t) _
  dsimp only
  rw [show (dats A0 A1 O b 0 c).Φ t.castSucc = iprop(emp) from rfl, show (dats A0 A1 O b 0 c).Φ t.succ = iprop(emp) from rfl]
  iintro ⟨-, HO, ⟨%d0, H0⟩, ⟨%d1, H1⟩⟩
  rw [before_rows]
  iapply (body_spec c (grid0.coords t) _ _ _ _ (rows A0 c t) _)
  isplitl [H0]; · iexact H0
  isplitl [H1]; · iexact H1
  iintro ⟨H0, H1⟩
  isplitr; · iempintro
  isplitl [HO]; · iexact HO
  isplitl [H0]; · iexact H0
  iexact H1

/-! ## The rows of minima and maxima -/

/-- Of all rows `Y`, 64 rows of 128 lanes: for each of the eight parts of 16384 rows, its quarters' minima and maxima. -/
def limRows (Y : S131072x128.Idx → Elt F .f32) : S64x128.Idx → Elt F .f32 := fun y =>
  lims (fun z : S16384x128.Idx => Y (ValueIdx.ix2 ⟨16384 * ((y 0).val / 8) + (z 0).val, by
      have hy : (y 0).val < 64 := (y 0).isLt
      have hz : (z 0).val < 16384 := (z 0).isLt
      omega⟩ (z 1) : S131072x128.Idx))
    (ValueIdx.ix2 ⟨(y 0).val % 8, Nat.mod_lt _ (by decide)⟩ (y 1) : S8x128.Idx)

/-- Where the windows' blocks lie. -/
theorem index0 : ∀ t : Fin cfg0.N, (cfg0.win 0).index t 0 = t.val ∧ (cfg0.win 0).index t 1 = 0 := by decide +kernel
theorem index1 : ∀ t : Fin cfg0.N, (cfg0.win 1).index t 0 = t.val ∧ (cfg0.win 1).index t 1 = 0 := by decide +kernel

/-- The pipeline leaves them. -/
theorem arr_out (c : Dev nD) : (dats A0 A1 O b 0 c).arrAt 1 cfg0.N = limRows (A0 c) := by
  refine (dats A0 A1 O b 0 c).arrAt_eq_of_covers 1 _ (by decide +kernel) fun t _ y => ?_
  blk_simp
  change lims (rows A0 c t) _ = _
  unfold limRows
  have hy0 : (y 0).val < 8 := (y 0).isLt
  have hy1 : (y 1).val < 128 := (y 1).isLt
  have e0 : (((win0_1.blk t).view.emb y) 0).val = 8 * t.val + (y 0).val := by
    blk_simp [(index1 t).1]; omega
  have e1 : (((win0_1.blk t).view.emb y) 1).val = (y 1).val := by
    blk_simp [(index1 t).2]
  refine congr (congrArg lims (funext fun z => ?_)) ?_
  · have hz0 : (z 0).val < 16384 := (z 0).isLt
    have f0 : (((win0_0.blk t).view.emb z) 0).val = 16384 * t.val + (z 0).val := by
      blk_simp [(index0 t).1]; omega
    have f1 : (((win0_0.blk t).view.emb z) 1).val = (z 1).val := by
      blk_simp [(index0 t).2]
    change A0 c ((win0_0.blk t).view.emb z) = _
    refine congrArg (A0 c) (funext fun a => Fin.ext ?_)
    match a with
    | 0 => rw [f0]; show _ = 16384 * (_ / 8) + (z 0).val; rw [e0]; omega
    | 1 => rw [f1]; rfl
  · funext a
    refine Fin.ext ?_
    match a with
    | 0 => show (y 0).val = _ % 8; rw [e0]; omega
    | 1 => show (y 1).val = _; rw [← e1]; rfl

/-! ## The region -/

/-- No table is prefetched. -/
abbrev adm : (p : Fin 1) → (pcfgs (F := F) p).Adm := fun p => (cfgs p).toPCfg_adm

/-- What a core owes, its recorded waits at level `b` at most. -/
def owed_ (c : Dev nD) : sProp 𝕄 :=
  iprop(∃ W, ⌜(K (F := F)).WBelow (c : Thread nD τ) W b⌝ ∗ owes (c : Thread nD τ) (O c) W)

set_option backward.isDefEq.respectTransparency.types false in
/-- The region: from the input's rows and anything in the block rows' place to the rows' minima and maxima there. -/
def region (hO : ∀ c g, O c g none = 0) :
    Pipeline.RegionSeg (pcfgs (F := F)) adm (dats A0 A1 O b) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation A0 A1 O b c).loose
  hwaits c := Pipeline.cellsWaits_intro _ _ _ _ _ fun _ _ _ => (K (F := F)).mayWait_none _ (hO c)
  pre c := iprop((((c : Thread nD τ).loc main_v0) ↦{fullShare} A0 c) ∗ (((c : Thread nD τ).loc main_v1) ↦{fullShare} A1 c) ∗ owed_ O b c)
  post c := iprop((((c : Thread nD τ).loc main_v0) ↦{fullShare} A0 c) ∗ (((c : Thread nD τ).loc main_v1) ↦{fullShare} (limRows (A0 c) : S64x128.Idx → Elt F .f32)) ∗ owed_ O b c)
  X _ := iprop(emp)
  Y _ := iprop(emp)
  Z _ := iprop(emp)
  hentry c := by
    rw [Pipeline.ownSems0_none, Pipeline.prefHeld_of_none _ rfl,
      Pipeline.arrays_eq (Pipeline.pin pcfgs adm) (dats A0 A1 O b) 0 c launch0.arr_whole ((dats A0 A1 O b 0 c).share_full fun _ => rfl), bigSep_W0]
    unfold owed_ Dat.owesAt Pipeline.owesWithin Dat.bound
    iintro ⟨⟨H0, H1, ⟨%W, %hW, HO⟩⟩, -, -⟩
    imodintro
    isplitl [H0 H1]
    · isplitl [H0]; · iexact H0
      iexact H1
    isplitr; · iempintro
    isplitl [HO]
    · iexists W; isplitr; · ipureintro; exact fun p hp => Or.inl (hW p hp)
      iexact HO
    isplitr <;> iempintro
  hin c := by
    iintro -; iempintro
  hout c := by
    rw [Pipeline.ownSems0_none, scopedRest0_eq]
    iintro -
    isplitr; · iempintro
    isplitr <;> iempintro
  hexit c := by
    rw [Pipeline.arrays_eq (Pipeline.pin pcfgs adm) (dats A0 A1 O b) 0 c launch0.arr_whole ((dats A0 A1 O b 0 c).share_full fun _ => rfl), bigSep_W0]
    rw [show (dats A0 A1 O b 0 c).arrAt 1 _ = _ from arr_out A0 A1 O b c, show (dats A0 A1 O b 0 c).arrAt 0 _ = A0 c from (dats A0 A1 O b 0 c).arrAt_in 0 rfl _]
    unfold owed_ Dat.owesAt Pipeline.owesWithin Dat.bound
    iintro ⟨⟨H0, H1⟩, ⟨%W, %hW, HO⟩, -, -⟩
    imodintro
    isplitl [H0]; · iexact H0
    isplitl [H1]; · iexact H1
    iexists W; isplitr
    · ipureintro
      rintro p hp
      rcases hW hp with h | ⟨w, s, rfl⟩
      · exact h
      · exact ((K (F := F)).lev_none _).le.trans (Nat.zero_le _)
    iexact HO

/-! ## The region's call in @main -/

/-- The pipeline's rounds: the second component's first. -/
def EP : Emb UP 𝕄 := (Emb.inl : Emb UP (UP × Counters)).trans embR

instance EP_landsIn : (EP : Emb UP 𝕄).LandsIn (upEmb : UEmb _ 𝕄) := by unfold EP; infer_instance

/-- The labels of the pipeline's calls, the body table with the pipeline's, and its variants. -/
abbrev ΛP : Labels := Pipeline.Sig Λ₀ (Fin 1) fun p => (pcfgs (F := F) p).Adm
abbrev D : Defs nD τ sig (Elt F) (ΛP (F := F)) := Pipeline.defs pcfgs defs₀
abbrev 𝒱 : Variants := 𝒱₀.lift

/-- What a core holds of the pipeline's ghost state before the region. -/
def ghost (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The first custom call of @main: the block rows become the rows' minima and maxima. -/
theorem region_run (hO : ∀ c g, O c g none = 0) (c : Dev nD) (Q : PUnit → sProp 𝕄) :
    iprop(boundary (c : Thread nD τ) ∗ (((c : Thread nD τ).loc main_v0) ↦{fullShare} A0 c) ∗ (((c : Thread nD τ).loc main_v1) ↦{fullShare} A1 c)
        ∗ owed_ O b c ∗ levAts (K (F := F)).L (K (F := F)).lev ∗ ghost c
        ∗ (boundary (c : Thread nD τ) ∗ (((c : Thread nD τ).loc main_v0) ↦{fullShare} A0 c)
            ∗ (((c : Thread nD τ).loc main_v1) ↦{fullShare} (limRows (A0 c) : S64x128.Idx → Elt F .f32)) ∗ owed_ O b c -∗ Q ⟨⟩))
      ⊢ wp frame (wpE ((K (F := F)).defs D) 𝒱 (c : Thread nD τ) none) Set.univ
          (Prog.lift (.customCall (SparseCore.inner (Pipeline.entry 0)) ())) Q := by
  have lifted := (K (F := F)).wp_liftProg (D (F := F)) 𝒱 (c : Thread nD τ) Set.univ none
    (Prog.op (.customCall (Pipeline.entry (0 : Fin 1)) ()) Prog.ret : Prog (TpuEff nD τ sig (Elt F) (ΛP (F := F)) .tc) PUnit) Q
  refine BIBase.Entails.trans ?_ lifted
  have key := Pipeline.RegionSeg.wp pcfgs adm (dats A0 A1 O b) none cellOf_inj EP defs₀ 𝒱₀ (K (F := F)).L (K (F := F)).lev
    (region A0 A1 O b hO) c none (fun u h => absurd h (Option.not_mem_none u)) (α := PUnit) Prog.ret Q
  refine BIBase.Entails.trans ?_ key
  unfold ghost
  dsimp only [region]
  iintro ⟨Hb, H0, H1, HO, Hl, ⟨Hg, Ht⟩, HQ⟩
  isplitl [HQ]
  · iintro ⟨Hb, H0, H1, HO⟩
    rw [wp_ret]
    imodintro
    iapply HQ
    isplitl [Hb]; · iexact Hb
    isplitl [H0]; · iexact H0
    isplitl [H1]; · iexact H1
    iexact HO
  isplitl [Hb]; · iexact Hb
  isplitl [H0 H1 HO]
  · isplitl [H0]; · iexact H0
    isplitl [H1]; · iexact H1
    iexact HO
  isplitl [Hl]; · iexact Hl
  isplitl [Hg]; · iexact Hg
  iexact Ht

end Region

end Cert.Proof.Kern
-- ==== Proof.Launch.lean ====
/-
  The whole program, for any float values: from a launch memory it ends with the input as it was, every label made from the
  limits of the input, and every semaphore at zero.
-/
module

public import proofs.«01_k».proof.Proof.Pieces
public import proofs.«01_k».proof.Proof.Region
public import Idealize.ShloMosaic.Lib.SparseCore.Quiescent
public import Idealize.ShloMosaic.Lib.StableHlo.Run

@[expose] public section

noncomputable section

namespace Cert.Proof.Kern

open Cert.KernelIdeal Cert.KernelIdeal.Gen
open Idealize.ShloMosaic Idealize.ShloMosaic.ValueIdx
open Idealize.ShloMosaic.TcCoe
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the program computes -/

/-- The input as rows of 128. -/
def rowsOf (X : S16777216.Idx → Elt F .f32) : S131072x128.Idx → Elt F .f32 := shapeCast S131072x128 X shapeCasts_S16777216_S131072x128

/-- The minima and maxima of the input. -/
def mmOf (X : S16777216.Idx → Elt F .f32) : S8x8x128.Idx → Elt F .f32 := shapeCast S8x8x128 (limRows (rowsOf X)) shapeCasts_S64x128_S8x8x128

/-- The labels of the input. -/
def labelsOf (X : S16777216.Idx → Elt F .f32) : S16777216.Idx → Elt F .i32 := labX (stepM (mmOf X)) (biasM (mmOf X)) X

/-! ## The launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH 𝕄 := embL

/-- No bound on a loop is asked for. -/
abbrev v₀ : 𝒱.V := Sum.inl none

section Launch

variable (m : (ℓ : Loc nD τ sig) → Buf (Elt F) ℓ) (ρ : Dev nD → PrngReg)

/-- The input's minima and maxima on a device, as the array's contents. -/
def mmB (d : Dev nD) : Buf (Elt F) (mmLoc d) := (mmOf (m (xLoc d)) : S8x8x128.Idx → Elt F .f32)

/-- A tile's task before the call, -/
def goT (d : Dev nD) (c : Fin 2) (s : Fin 16) : sProp 𝕄 := task d (coordsV c s) (mmShare c s) (m (xLoc d)) (mmB m d) (m (oLoc d))

/-- and after it. -/
def tdT (d : Dev nD) (c : Fin 2) (s : Fin 16) : sProp 𝕄 := task d (coordsV c s) (mmShare c s) (m (xLoc d)) (mmB m d) (labels d (m (xLoc d)) (mmB m d))

instance (d : Dev nD) (c : Fin 2) (s : Fin 16) : BI.Storable (upEmb : UEmb _ 𝕄) (goT m d c s) := by unfold goT; infer_instance
instance (d : Dev nD) (c : Fin 2) (s : Fin 16) : BI.Storable (upEmb : UEmb _ 𝕄) (tdT m d c s) := by unfold tdT; infer_instance

/-- What the call hands out and gets back: a tile's task, a SparseCore's tiles' tasks. -/
def P : (K (F := F)).Pay (nD := nD) (Val := Elt F) (Name := ℕ) (U := UU) where
  st := fun q d c => match q with | 0 => bigSep Finset.univ fun s : Fin 16 => goT m d c s
  dn := fun q d c => match q with | 0 => bigSep Finset.univ fun s : Fin 16 => tdT m d c s
  go := fun q d c i => match q with | 0 => goT m d c i
  td := fun q d c i => match q with | 0 => tdT m d c i
  x := fun _ _ => iprop(emp)

instance P_storable : (P m).IsStorable where
  st q d c := match q with | 0 => (inferInstance : BI.Storable (upEmb : UEmb _ 𝕄) (bigSep Finset.univ fun s : Fin 16 => goT m d c s))
  dn q d c := match q with | 0 => (inferInstance : BI.Storable (upEmb : UEmb _ 𝕄) (bigSep Finset.univ fun s : Fin 16 => tdT m d c s))
  go q d c i := match q with | 0 => (inferInstance : BI.Storable (upEmb : UEmb _ 𝕄) (goT m d c i))
  td q d c i := match q with | 0 => (inferInstance : BI.Storable (upEmb : UEmb _ 𝕄) (tdT m d c i))

theorem defs₀_vector (c : Fin τ.nSC) (s : Fin τ.nSub) :
    defs₀ (F := F) (.scVector c s) 1 () = SparseCore.onTile hcore1 hsub1 (fun c s => printed (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile does its task. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts _ _ _ _ O W hO).trans (wp_mono frame _ _ fun _ => obl_post)

/-- A SparseCore's part of the call is its tiles' tasks. -/
theorem vecSplit : (K (F := F)).VecSplit' (P m) 0 := by
  intro d c
  show (bigSep Finset.univ fun s : Fin 16 => goT m d c s) ⊢ |={Set.univ}=> iprop((bigSep Finset.univ fun s : Fin 16 => goT m d c s)
    ∗ ((bigSep Finset.univ fun s : Fin 16 => tdT m d c s) -∗ bigSep Finset.univ fun s : Fin 16 => tdT m d c s))
  iintro H; imodintro
  isplitl [H]; · iexact H
  iintro H; iexact H

/-! ## The launch element of the certificate's ghost state -/

/-- The launch's rounds, the pipeline's, and nothing yet counted. -/
def u₀ : UU := (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun c : Dev nD => ghost (F := F) c)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave HP := (show BI.own (embR ((initOf (Pipeline.cells cfgs cellOf_inj) (Pipeline.launchToks cfgs cellOf_inj), 1) : UP × Counters))
    ⊢ (BI.own (EP (initOf (Pipeline.cells (Pipeline.pin (pcfgs (F := F)) adm) cellOf_inj) (Pipeline.launchToks (Pipeline.pin (pcfgs (F := F)) adm) cellOf_inj))) : sProp 𝕄)
    from .rfl) $$ HR
  imod (Pipeline.fund_ghost (Pipeline.pin (pcfgs (F := F)) adm) EP cellOf_inj) $$ HP with ⟨Hg, Ht⟩
  imodintro
  isplitl [HH]; · iexact HH
  isplitl [Hg Ht]
  · unfold ghost
    rw [bigSep_sep']
    isplitl [Hg]
    · rw [show (bigSep Finset.univ fun c : Dev nD => Pipeline.cellsGhost (Pipeline.pin (pcfgs (F := F)) adm) EP 0 c : sProp 𝕄)
          = bigSep Finset.univ fun c : Dev nD => bigSep Finset.univ fun p => Pipeline.cellsGhost (Pipeline.pin (pcfgs (F := F)) adm) EP p c from
          bigSep_congr fun _ _ => (bigSep_univ_of_subsingleton (0 : Fin 1) (Φ := fun p => (Pipeline.cellsGhost (Pipeline.pin (pcfgs (F := F)) adm) EP p _ : sProp 𝕄))).symm]
      iexact Hg
    · rw [show (bigSep Finset.univ fun c : Dev nD => Pipeline.toksInit (Pipeline.pin (pcfgs (F := F)) adm) EP 0 c : sProp 𝕄)
          = bigSep Finset.univ fun c : Dev nD => bigSep Finset.univ fun p => Pipeline.toksInit (Pipeline.pin (pcfgs (F := F)) adm) EP p c from
          bigSep_congr fun _ _ => (bigSep_univ_of_subsingleton (0 : Fin 1) (Φ := fun p => (Pipeline.toksInit (Pipeline.pin (pcfgs (F := F)) adm) EP p _ : sProp 𝕄))).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

include m in
/-- A reshape of one array into another. -/
theorem reshape_run (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hxy : (x : DevRef τ sig) ≠ (y : DevRef τ sig)) (fx : x.ty.Contents (Elt F)) (fy : y.ty.Contents (Elt F))
    (Q : PUnit → sProp 𝕄) :
    iprop(boundary (d.tc : Thread nD τ) ∗ ((d.tc : Thread nD τ).loc x ↦{fullShare} fx) ∗ ((d.tc : Thread nD τ).loc y ↦{fullShare} fy)
        ∗ (boundary (d.tc : Thread nD τ) ∗ ((d.tc : Thread nD τ).loc x ↦{fullShare} fx)
            ∗ ((d.tc : Thread nD τ).loc y ↦{fullShare} (fun i => he ▸ shapeCast y.ty.shape fx hn i : y.ty.Contents (Elt F))) -∗ Q ⟨⟩))
      ⊢ wp frame (wpE ((K (F := F)).defs (D (F := F))) 𝒱 (d.tc : Thread nD τ) none) Set.univ
          (hlo rfl (StableHlo.reshape x y he hn hx hy) (fun _ => .ret ⟨⟩)) Q := by
  let V : Valuation τ sig (Elt F) := Function.update (Function.update (fun b => m (d, b)) (x : DevRef τ sig) fx) (y : DevRef τ sig) fy
  have hVx : V x = fx := by
    show Function.update _ _ _ _ = _
    rw [Function.update_of_ne hxy, Function.update_self]
  have hVy : V y = fy := Function.update_self _ _ _
  have hheld : ∀ W : Valuation τ sig (Elt F), (held (d.tc : Thread nD τ) {(x : DevRef τ sig), (y : DevRef τ sig)} W : sProp 𝕄)
      = iprop(((d.tc : Thread nD τ).loc x ↦{fullShare} W x) ∗ ((d.tc : Thread nD τ).loc y ↦{fullShare} W y)) := fun W => by
    unfold StableHlo.held
    rw [SparseCore.bigSep_insert' (by simpa using hxy), bigSep_singleton]
  iintro ⟨Hb, Hx, Hy, HQ⟩
  iapply (wp_hlo_within 𝒱 (d.tc : Thread nD τ) none Set.univ (op := StableHlo.reshape x y he hn hx hy)
    (S := {(x : DevRef τ sig), (y : DevRef τ sig)}) (Finset.Subset.refl _) (V := V)) $$ [Hb Hx Hy]
  · isplitl [Hb]; · iexact Hb
    rw [hheld, hVx, hVy]
    isplitl [Hx] <;> iassumption
  rw [hheld, StableHlo.reshape_result, hVx, HloOp.result_of_not_mem _ V (b := (x : DevRef τ sig))
    (show (x : DevRef τ sig) ∉ ({(y : DevRef τ sig)} : Finset _) by simpa using hxy), hVx]
  iintro ⟨Hb, Hx, Hy⟩
  rw [wp_ret]; imodintro
  iapply HQ
  isplitl [Hb]; · iexact Hb
  isplitl [Hx] <;> iassumption

theorem unscopedBufs_eq (d : Dev nD) (W : (b : Ref sig .tc) → Buf (Elt F) ((d.tc : Thread nD τ).loc b)) :
    (unscopedBufs d W : sProp 𝕄) = iprop((xLoc d ↦{fullShare} W main_arg0) ∗ ((d.tc : Thread nD τ).loc main_v0 ↦{fullShare} W main_v0)
      ∗ ((d.tc : Thread nD τ).loc main_v1 ↦{fullShare} W main_v1) ∗ (mmLoc d ↦{fullShare} W main_v2) ∗ oLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ (mmLoc d ↦{fullShare} mmB m d) ∗ (oLoc d ↦{fullShare} m (oLoc d))) :=
  tasks_eq d (m (xLoc d)) (mmB m d) (m (oLoc d))

theorem dn0_eq (d : Dev nD) : (bigSep Finset.univ fun c : Fin ((K (F := F)).nCore 0) => (P m).dn 0 d c)
    = iprop((xLoc d ↦{fullShare} m (xLoc d)) ∗ (mmLoc d ↦{fullShare} mmB m d) ∗ (oLoc d ↦{fullShare} labels d (m (xLoc d)) (mmB m d))) :=
  tasks_eq d (m (xLoc d)) (mmB m d) (labels d (m (xLoc d)) (mmB m d))

/-- What @main leaves: the input as it was and its labels. -/
abbrev FIN (d : Dev nD) : sProp 𝕄 := iprop((xLoc d ↦{fullShare} m (xLoc d)) ∗ oLoc d ↦{fullShare} labels d (m (xLoc d)) (mmB m d))

/-- Before the call nothing is owed to a cell outside the launch. -/
theorem otc_none (d : Dev nD) (n : ℕ) (g : GSem nD τ sig) : (K (F := F)).Otc d n g none = 0 := by
  by_contra h
  have := (K (F := F)).lev_of_Otc_pos (Nat.pos_of_ne_zero h)
  rw [(K (F := F)).lev_none] at this
  omega

/-- The rows' minima and maxima on a device. -/
def rows0 (d : Dev nD) : Buf (Elt F) ((d : Thread nD τ).loc main_v0) := (rowsOf (m (xLoc d)) : S131072x128.Idx → Elt F .f32)

/-- Before the call the core's state is what it owes and the rest, which take one another back. -/
theorem tcSt_owed (d : Dev nD) :
    ((K (F := F)).tcSt EH d 0 : sProp 𝕄)
      ⊢ iprop(owed_ (F := F) (fun c => (K (F := F)).Otc c 0) (8 * SparseCore.Cfg.Blocks.fst 1 1 0) d
          ∗ (owed_ (F := F) (fun c => (K (F := F)).Otc c 0) (8 * SparseCore.Cfg.Blocks.fst 1 1 0) d -∗ (K (F := F)).tcSt EH d 0)) := by
  unfold SparseCore.Cfg.tcSt owed_
  iintro ⟨HO, Hst⟩
  isplitl [HO]; · iexact HO
  iintro HO
  isplitl [HO]; · iexact HO
  iexact Hst

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, H0, H1, H2, Ho⟩, Hts, -⟩, Hg⟩
  iapply (reshape_run m d main_arg0 main_v0 rfl shapeCasts_S16777216_S131072x128 _ _ (by decide) (m (xLoc d)) _ _)
  isplitl [Hb]; · iexact Hb
  isplitl [Hx]; · iexact Hx
  isplitl [H0]; · iexact H0
  iintro ⟨Hb, Hx, H0⟩
  ihave Hlv := ((K (F := F)).ctx_levAts κ) $$ Hctx
  ihave Hst := (tcSt_owed d) $$ Hst
  icases Hst with ⟨HO, Hst⟩
  iapply (region_run (fun c => rows0 m c) (fun c => m ((c : Thread nD τ).loc main_v1)) (fun c => (K (F := F)).Otc c 0) (8 * SparseCore.Cfg.Blocks.fst 1 1 0)
    (fun c g => otc_none c 0 g) d _)
  isplitl [Hb]; · iexact Hb
  isplitl [H0]; · iexact H0
  isplitl [H1]; · iexact H1
  isplitl [HO]; · iexact HO
  isplitl [Hlv]; · iexact Hlv
  isplitl [Hg]; · iexact Hg
  iintro ⟨Hb, H0, H1, HO⟩
  iapply (reshape_run m d main_v1 main_v2 rfl shapeCasts_S64x128_S8x8x128 _ _ (by decide) (limRows (rows0 m d) : S64x128.Idx → Elt F .f32) _ _)
  isplitl [Hb]; · iexact Hb
  isplitl [H1]; · iexact H1
  isplitl [H2]; · iexact H2
  iintro ⟨Hb, H1, H2⟩
  iapply ((K (F := F)).wp_run (D (F := F)) 𝒱 (EH := EH) (P := P m) κ d 0) $$ [Hst HO Hx H2 Ho Hb Hts]
  isplitr; · iexact Hctx
  isplitl [Hst HO]
  · iapply Hst; iexact HO
  isplitl [Hx H2 Ho]
  · rw [st0_eq]
    isplitl [Hx]; · iexact Hx
    isplitl [H2]; · iexact H2
    iexact Ho
  iintro ⟨Hst, Hdn⟩
  ihave Hdn' := (Entails.of_eq (dn0_eq m d)) $$ Hdn
  icases Hdn' with ⟨Hx, -, Ho⟩
  imodintro
  isplitl [Hst]; · iexact Hst
  isplitr [Hb Hts]
  · isplitl [Hx]; · iexact Hx
    iexact Ho
  isplitl [Hb] <;> iassumption

/-! ## The program's run -/

def fq (d : Dev nD) (s' : Phys nD τ sig (Elt F)) : Prop :=
  s'.mem.mem (xLoc d) = m (xLoc d) ∧ s'.mem.mem (oLoc d) = (labelsOf (m (xLoc d)) : S16777216.Idx → Elt F .i32)

/-- What a tile makes is what the program computes. -/
theorem labels_eq (d : Dev nD) : labels d (m (xLoc d)) (mmB m d) = (labelsOf (m (xLoc d)) : S16777216.Idx → Elt F .i32) := rfl

set_option maxRecDepth 16384 in
theorem hfin (d : Dev nD) (s' : Phys nD τ sig (Elt F)) : iprop(FIN m d ∗ SI s') ⊢ (⌜fq m d s'⌝ : sProp 𝕄) := by
  unfold FIN
  rw [labels_eq]
  iintro ⟨⟨Hi, Hx⟩, HSI⟩
  ihave H := (persistent_entails_right (SI_pointsTo_agree (st := s') (ℓ := xLoc d) (I := Finset.univ) (q := fullShare) (f := m (xLoc d)))) $$ [HSI Hi]
  · isplitl [HSI] <;> iassumption
  icases H with ⟨%h1, HSI, -⟩
  ihave H := (SI_pointsTo_agree (st := s') (ℓ := oLoc d) (I := Finset.univ) (q := fullShare) (f := (labelsOf (m (xLoc d)) : S16777216.Idx → Elt F .i32))) $$ [HSI Hx]
  · isplitl [HSI] <;> iassumption
  icases H with %h2
  ipureintro; exact ⟨funext fun i => h1 i (Finset.mem_univ i), funext fun i => h2 i (Finset.mem_univ i)⟩

/-- The end of a run: on every device the input as it was and its labels made; every semaphore at zero. -/
def QC : PUnit × MemSt nD τ sig (Elt F) → Prop := fun r =>
  (∀ c : Dev nD, r.2.mem (xLoc c) = m (xLoc c) ∧ r.2.mem (oLoc c) = (labelsOf (m (xLoc c)) : S16777216.Idx → Elt F .i32)) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun c => ghost (F := F) c) (FIN m) (u₀ (F := F)) (sep_elim_left.trans (hu₀ m)) (hmain m ρ) (fq m) (hfin m) (QC m) (fun _ h hz => ⟨h, hz⟩)

end Launch

end Cert.Proof.Kern
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's functions are those of its copy for extended reals, label by label. -/
theorem bodies_eq : Cert.Kernel.defs₀ (F := Bits) = Cert.KernelIdeal.defs₀ (F := Bits) := by
  funext p l a
  cases p <;>
    (cases l using Fin.cases with
      | zero => rfl
      | succ i => cases i using Fin.cases with
        | zero => rfl
        | succ i => exact i.elim0)

/-- So are the two programs' whole tables of functions. -/
theorem tables_eq : Cert.Kernel.defs (F := Bits) = Cert.KernelIdeal.defs (F := Bits) :=
  congrArg (fun D => Cert.KernelIdeal.sc.defs (Pipeline.defs Cert.KernelIdeal.pcfgs D)) bodies_eq

/-- The kernel, over words: it terminates without fault from every memory, its input ends unchanged, and every
    semaphore ends at zero. -/
theorem frame_kernel : Cert.quiescent_Kernel := by
  intro m ρ _
  have h : θ_run (Cert.KernelIdeal.defs (F := Bits)) (Cert.KernelIdeal.threads (F := Bits)) ⟨m, fun _ => 0, ρ⟩
      (fun r => (∀ c : Dev Cert.KernelIdeal.nD, r.2.mem (Kern.xLoc c) = m (Kern.xLoc c)) ∧ r.2.sem = fun _ => 0) :=
    (θ_run Cert.KernelIdeal.defs _ _).mono (fun _ h => ⟨fun c => (h.1 c).1, h.2⟩) (Kern.run_main (F := Bits) m ρ)
  rw [← tables_eq] at h
  exact h

/-- The kernel, over extended reals: the same, from every memory. -/
theorem frame_kernelIdeal : Cert.quiescent_KernelIdeal := fun m ρ _ =>
  (θ_run Cert.KernelIdeal.defs _ _).mono (fun _ h => ⟨fun c => (h.1 c).1, h.2⟩) (Kern.run_main (F := Ideal) m ρ)

/-- The reference, over extended reals: it terminates from every memory and its input ends unchanged. It declares no
    semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Extrema.lean ====
/-
  Over extended reals every lane of the kernel's folded minima holds the infimum of the whole input, and every lane of
  its maxima the supremum. Both are shown at once: a predicate `R` that a fold's value has exactly when every folded
  element has it (`z ≤ ·` for minima, `· ≤ z` for maxima) is followed from the lanes back to the input.
-/
module

public import proofs.«01_k».proof.Proof.Launch
public import Idealize.ShloMosaic.PureOps.Ideal.Laws
public import Idealize.ShloMosaic.Lib.ValueIdx

@[expose] public section

noncomputable section

namespace Cert.Proof.Kern

open Cert.KernelIdeal Cert.KernelIdeal.Gen
open Idealize.ShloMosaic hiding ix1 ix2 ix3 eq_ix1 eq_ix2 eq_ix3
open Idealize.ShloMosaic.ValueIdx (ix1 ix2 ix3 eq_ix1 eq_ix2 eq_ix3)

/-! ## Folds -/

/-- A predicate holds of a left fold exactly when it holds of the start and of every folded element, if the operation
    keeps it so. -/
theorem foldl_iff {ι α : Type} {op : α → α → α} {R : α → Prop} (hop : ∀ a b, R (op a b) ↔ R a ∧ R b) (f : ι → α) :
    ∀ (L : List ι) (a : α), R (L.foldl (fun a p => op a (f p)) a) ↔ R a ∧ ∀ p ∈ L, R (f p)
  | [], a => by simp
  | x :: L, a => by
    rw [List.foldl_cons, foldl_iff hop f L, hop, List.forall_mem_cons, and_assoc]

/-- So for a reduction over axes of an array, -/
theorem reduceFold_iff {s t : Shape} {axes : List (Fin s.rank)} {α : Type} {op : α → α → α} {R : α → Prop}
    (hop : ∀ a b, R (op a b) ↔ R a ∧ R b) (h : s.Reduces axes t) (a : α) (x : s.Idx → α) (j : t.Idx) :
    R (reduceFold h op a x j) ↔ R a ∧ ∀ i, h.drop i = j → R (x i) := by
  rw [reduceFold_eq_foldl, foldl_iff hop]
  refine and_congr_right fun _ => ⟨fun H i hi => H i ?_, fun H i hi => H i (by simpa using (List.mem_filter.1 hi).2)⟩
  rw [List.mem_filter]
  exact ⟨List.mem_map.2 ⟨s.rowMajor i, List.mem_finRange _, Equiv.symm_apply_apply _ _⟩, by simp [hi]⟩

/-- and for the host's. -/
theorem hostReduce_iff {s t u : Shape} {axes : List (Fin s.rank)} {α : Type} {op : α → α → α} {R : α → Prop}
    (hop : ∀ a b, R (op a b) ↔ R a ∧ R b) (h : s.ReducesTo axes t) (hu : 0 < u.numel) (x : s.Idx → α) (init : u.Idx → α) (j : t.Idx) :
    R (Host.reduce op x init h hu j) ↔ R (init (Shape.Idx.first hu)) ∧ ∀ i, h.drop i = j → R (x i) := by
  rw [Host.reduce_eq_foldl, foldl_iff hop]
  refine and_congr_right fun _ => ⟨fun H i hi => H i ?_, fun H i hi => H i (by simpa using (List.mem_filter.1 hi).2)⟩
  rw [List.mem_filter]
  exact ⟨List.mem_map.2 ⟨s.rowMajor i, List.mem_finRange _, Equiv.symm_apply_apply _ _⟩, by simp [hi]⟩

/-! ## From the lanes to the copied array -/

section Lanes

variable {op : FVec Ideal S16 .f32 → FVec Ideal S16 .f32 → FVec Ideal S16 .f32} {R : EReal → Prop}
  (hop : ∀ a b l, R (op a b l) ↔ R (a l) ∧ R (b l))

/-- The sixteen lanes' exchange, for any operation. -/
def allOf (op : FVec Ideal S16 .f32 → FVec Ideal S16 .f32 → FVec Ideal S16 .f32) (v : FVec Ideal S16 .f32) : FVec Ideal S16 .f32 :=
  let v₁ := op v (xchg 8 v)
  let v₂ := op v₁ (xchg 4 v₁)
  let v₃ := op v₂ (xchg 2 v₂)
  op v₃ (xchg 1 v₃)

/-- A lane's number with the bits of `s` turned, or not. -/
def turnIf (b : Bool) (s : ℕ) (k : Fin 16) : Fin 16 := if b then ⟨(k.val ^^^ s) % 16, Nat.mod_lt _ (by decide)⟩ else k

/-- Any lane is reached from any other by turning bits one after the other. -/
theorem reach : ∀ k k' : Fin 16, ∃ b₁ b₂ b₃ b₄ : Bool, turnIf b₁ 8 (turnIf b₂ 4 (turnIf b₃ 2 (turnIf b₄ 1 k))) = k' := by
  decide +kernel

include hop in
theorem step_iff (s : ℕ) (v : FVec Ideal S16 .f32) (b : Bool) (k : Fin 16) (h : R (op v (xchg s v) (ix1 k))) : R (v (ix1 (turnIf b s k))) := by
  have h' := (hop _ _ _).1 h
  cases b
  · exact h'.1
  · exact h'.2

include hop in
/-- A lane of the exchange has the predicate exactly when every lane before it had. -/
theorem allOf_iff (v : FVec Ideal S16 .f32) (k : Fin 16) : R (allOf op v (ix1 k)) ↔ ∀ k', R (v (ix1 k')) := by
  constructor
  · intro h k'
    obtain ⟨b₁, b₂, b₃, b₄, rfl⟩ := reach k k'
    exact step_iff hop 8 _ b₁ _ (step_iff hop 4 _ b₂ _ (step_iff hop 2 _ b₃ _ (step_iff hop 1 _ b₄ _ h)))
  · intro h
    have one : ∀ (s : ℕ) (w : FVec Ideal S16 .f32), (∀ k, R (w (ix1 k))) → ∀ k, R (op w (xchg s w) (ix1 k)) :=
      fun s w hw k => (hop _ _ _).2 ⟨hw k, hw _⟩
    exact one 1 _ (one 2 _ (one 4 _ (one 8 v h))) k

/-- The fold of four rows of a block, for any operation and any choice of the four rows, -/
def foldOf (op : FVec Ideal S16 .f32 → FVec Ideal S16 .f32 → FVec Ideal S16 .f32) (row : Fin 4 → Fin 8)
    (M : S8x8x128.Idx → Ideal .f32) (t : Fin 8) (a : FVec Ideal S16 .f32) : FVec Ideal S16 .f32 :=
  groups.foldl (fun a p => op a (sub (F := Ideal) M t (row p.1) p.2)) a

/-- and the first `n` blocks' folds. -/
def accOf (op : FVec Ideal S16 .f32 → FVec Ideal S16 .f32 → FVec Ideal S16 .f32) (row : Fin 4 → Fin 8)
    (M : S8x8x128.Idx → Ideal .f32) : ℕ → FVec Ideal S16 .f32
  | 0 => sub (F := Ideal) M 0 (row 0) 0
  | n + 1 => foldOf op row M (Fin.ofNat 8 n) (accOf op row M n)

theorem mem_groups (p : Fin 4 × Fin 8) : p ∈ groups := by
  unfold groups
  exact List.mem_flatMap.2 ⟨p.1, List.mem_finRange _, List.mem_map.2 ⟨p.2, List.mem_finRange _, rfl⟩⟩

include hop in
theorem foldOf_iff (row : Fin 4 → Fin 8) (M : S8x8x128.Idx → Ideal .f32) (t : Fin 8) (a : FVec Ideal S16 .f32) (l : S16.Idx) :
    R (foldOf op row M t a l) ↔ R (a l) ∧ ∀ r g, R (sub (F := Ideal) M t (row r) g l) := by
  have h := foldl_iff (R := fun v : FVec Ideal S16 .f32 => R (v l)) (fun a b => hop a b l)
    (fun p : Fin 4 × Fin 8 => sub (F := Ideal) M t (row p.1) p.2) groups a
  exact h.trans (and_congr_right fun _ => ⟨fun H r g => H (r, g) (mem_groups _), fun H p _ => H p.1 p.2⟩)

include hop in
theorem accOf_iff (row : Fin 4 → Fin 8) (M : S8x8x128.Idx → Ideal .f32) (l : S16.Idx) :
    ∀ n ≤ 8, R (accOf op row M n l) ↔ R (sub (F := Ideal) M 0 (row 0) 0 l) ∧ ∀ t : Fin 8, t.val < n → ∀ r g, R (sub (F := Ideal) M t (row r) g l)
  | 0, _ => by simp [accOf]
  | n + 1, hn => by
    have e : (Fin.ofNat 8 n).val = n := Nat.mod_eq_of_lt (by omega)
    show R (foldOf op row M (Fin.ofNat 8 n) (accOf op row M n) l) ↔ _
    rw [foldOf_iff hop, accOf_iff row M l n (by omega), and_assoc]
    refine and_congr_right fun _ => ⟨fun H t ht r g => ?_, fun H => ⟨fun t ht => H t (by omega), H _ (by omega)⟩⟩
    by_cases h : t.val = n
    · obtain rfl : t = Fin.ofNat 8 n := Fin.ext (h.trans e.symm)
      exact H.2 r g
    · exact H.1 t (by omega) r g

include hop in
/-- A lane of the whole fold has the predicate exactly when every element of the copied array's chosen rows has it. -/
theorem lanes_iff (row : Fin 4 → Fin 8) (M : S8x8x128.Idx → Ideal .f32) (k : Fin 16) :
    R (allOf op (accOf op row M 8) (ix1 k)) ↔ ∀ (t : Fin 8) (r : Fin 4) (c : Fin 128), R (M (ix3 t (row r) c)) := by
  rw [allOf_iff hop]
  constructor
  · intro H t r c
    have h := ((accOf_iff hop row M _ 8 le_rfl).1 (H ⟨c.val % 16, Nat.mod_lt _ (by decide)⟩)).2 t t.isLt r ⟨c.val / 16, by omega⟩
    refine (congrArg R (congrArg M (congrArg (ix3 t (row r)) (Fin.ext ?_)))).mp h
    show 16 * (c.val / 16) + c.val % 16 = c.val
    omega
  · intro H k'
    exact (accOf_iff hop row M _ 8 le_rfl).2 ⟨H 0 0 _, fun t _ r g => H t r _⟩

end Lanes

/-! ## From the copied array to the input -/

/-- Row `r` of block `t` of the copied array, in the array that the TensorCore left. -/
theorem mmOf_apply (X : S16777216.Idx → Ideal .f32) (t r : Fin 8) (c : Fin 128) :
    mmOf (F := Ideal) X (ix3 t r c) = lims (F := Ideal) (fun z => rowsOf (F := Ideal) X (ix2 ⟨16384 * t.val + (z 0).val, by
      have h : (z 0).val < 16384 := (z 0).isLt
      omega⟩ (z 1))) (ix2 r c : S8x128.Idx) := by
  have e := shapeCast_apply (limRows (F := Ideal) (rowsOf (F := Ideal) X)) shapeCasts_S64x128_S8x8x128 (ix3 t r c : S8x8x128.Idx) (ix2 ⟨8 * t.val + r.val, by omega⟩ c : S64x128.Idx) (by
    rw [Shape.rowMajor_val_two, Shape.rowMajor_val_three]
    show (8 * t.val + r.val) * 128 + c.val = (t.val * 8 + r.val) * 128 + c.val
    omega)
  refine e.trans ?_
  have h1 : (8 * t.val + r.val) / 8 = t.val := by omega
  have h2 : (8 * t.val + r.val) % 8 = r.val := by omega
  show lims (F := Ideal) (fun z => rowsOf (F := Ideal) X (ix2 ⟨16384 * ((8 * t.val + r.val) / 8) + (z 0).val, _⟩ (z 1))) (ix2 ⟨(8 * t.val + r.val) % 8, _⟩ c) = _
  simp only [h1, h2]

/-- The element of the input at row `n` and column `c` of its 131072 rows. -/
theorem rowsOf_apply (X : S16777216.Idx → Ideal .f32) (n : Fin 131072) (c : Fin 128) :
    rowsOf (F := Ideal) X (ix2 n c) = X (ix1 ⟨n.val * 128 + c.val, by omega⟩) :=
  shapeCast_apply X shapeCasts_S16777216_S131072x128 (ix2 n c : S131072x128.Idx) (ix1 ⟨n.val * 128 + c.val, by omega⟩ : S16777216.Idx) (by
    rw [Shape.rowMajor_val_two, Shape.rowMajor_val_one]; rfl)

/-- The element of a block at group `a`, row `b` and column `c`. -/
theorem pay1_apply (w : S16384x128.Idx → Ideal .f32) (a : Fin 4) (b : Fin 4096) (c : Fin 128) :
    k0_pay1 (F := Ideal) w (ix3 a b c) = w (ix2 ⟨4096 * a.val + b.val, by omega⟩ c) := by
  unfold k0_pay1
  refine (shapeCast_apply _ _ (ix3 a b c : S4x4096x128.Idx) (ix2 ⟨4096 * a.val + b.val, by omega⟩ c : S16384x128.Idx) ?_).trans ?_
  · rw [Shape.rowMajor_val_two, Shape.rowMajor_val_three]
    show (4096 * a.val + b.val) * 128 + c.val = (a.val * 4096 + b.val) * 128 + c.val
    omega
  · exact shapeCast_apply _ _ _ _ rfl

theorem drop_rows (a : Fin 4) (b : Fin 4096) (c : Fin 128) :
    reduces_S4x4096x128_S4x128.drop (ix3 a b c : S4x4096x128.Idx) = (ix2 a c : S4x128.Idx) := by
  funext d
  match d with
  | 0 => exact Fin.ext (reduces_S4x4096x128_S4x128.drop_apply_val_of_eq _ 0 0)
  | 1 => exact Fin.ext (reduces_S4x4096x128_S4x128.drop_apply_val_of_eq _ 1 2)

/-- A fold over the rows of a group of a block has the predicate exactly when the group's column has it. -/
theorem group_iff {op : EReal → EReal → EReal} {R : EReal → Prop} (hop : ∀ a b, R (op a b) ↔ R a ∧ R b) (z₀ : EReal) (h₀ : R z₀)
    (w : S16384x128.Idx → Ideal .f32) (a : Fin 4) (c : Fin 128) :
    R (reduceFold reduces_S4x4096x128_S4x128 op z₀ (k0_pay1 (F := Ideal) w) (ix2 a c))
      ↔ ∀ b : Fin 4096, R (w (ix2 ⟨4096 * a.val + b.val, by omega⟩ c)) := by
  rw [reduceFold_iff hop]
  constructor
  · intro H b
    exact (congrArg R (pay1_apply w a b c)).mp (H.2 _ (drop_rows a b c))
  · intro H
    refine ⟨h₀, fun i hi => ?_⟩
    obtain ⟨a', b', c', rfl⟩ : ∃ a' b' c', i = (ix3 a' b' c' : S4x4096x128.Idx) := ⟨_, _, _, eq_ix3 i⟩
    rw [drop_rows] at hi
    obtain rfl : a' = a := congrFun hi 0
    obtain rfl : c' = c := congrFun hi 1
    exact (congrArg R (pay1_apply w a' b' c')).mpr (H b')

/-- If the chosen rows of the copied array hold folds over their groups, a lane of the whole fold has the predicate
    exactly when every element of the input has it. -/
theorem whole_iff {op' : EReal → EReal → EReal} {op : FVec Ideal S16 .f32 → FVec Ideal S16 .f32 → FVec Ideal S16 .f32} {R : EReal → Prop}
    (hop' : ∀ a b, R (op' a b) ↔ R a ∧ R b) (hop : ∀ a b l, R (op a b l) ↔ R (a l) ∧ R (b l)) (z₀ : EReal) (h₀ : R z₀) (row : Fin 4 → Fin 8)
    (hrow : ∀ (w : S16384x128.Idx → Ideal .f32) (r : Fin 4) (c : Fin 128),
      lims (F := Ideal) w (ix2 (row r) c) = reduceFold reduces_S4x4096x128_S4x128 op' z₀ (k0_pay1 (F := Ideal) w) (ix2 r c))
    (X : S16777216.Idx → Ideal .f32) (k : Fin 16) :
    R (allOf op (accOf op row (mmOf (F := Ideal) X) 8) (ix1 k)) ↔ ∀ j, R (X j) := by
  rw [lanes_iff hop]
  constructor
  · intro H j
    have hj : (j 0).val < 16777216 := (j 0).isLt
    have h := H ⟨(j 0).val / 2097152, by omega⟩ ⟨(j 0).val / 524288 % 4, by omega⟩ ⟨(j 0).val % 128, by omega⟩
    rw [mmOf_apply, hrow, group_iff hop' z₀ h₀] at h
    have h' := h ⟨(j 0).val / 128 % 4096, by omega⟩
    rw [rowsOf_apply] at h'
    rw [eq_ix1 j]
    refine (congrArg R (congrArg X (congrArg ix1 (Fin.ext ?_)))).mp h'
    show (16384 * ((j 0).val / 2097152) + (4096 * ((j 0).val / 524288 % 4) + (j 0).val / 128 % 4096)) * 128 + (j 0).val % 128 = (j 0).val
    omega
  · intro H t r c
    rw [mmOf_apply, hrow, group_iff hop' z₀ h₀]
    intro b
    rw [rowsOf_apply]
    exact H _

theorem posInf : Ideal.ofBits .f32 0x7F800000#32 = (⊤ : EReal) := by simp [Ideal.ofBits, Ideal.ieee]
theorem negInf : Ideal.ofBits .f32 0xFF800000#32 = (⊥ : EReal) := by simp [Ideal.ofBits, Ideal.ieee]

theorem pay2_fold (w : S16384x128.Idx → Ideal .f32) :
    k0_pay2 (F := Ideal) w = reduceFold reduces_S4x4096x128_S4x128 (min : EReal → EReal → EReal) ⊤ (k0_pay1 (F := Ideal) w) :=
  (multiReduction_minimumf_eq_reduceFold (F := Ideal) (k0_pay1 (F := Ideal) w) 0x7F800000#32 reduces_S4x4096x128_S4x128 (.inl rfl) rfl).trans
    (congrArg (fun z : EReal => reduceFold reduces_S4x4096x128_S4x128 (min : EReal → EReal → EReal) z (k0_pay1 (F := Ideal) w)) posInf)

theorem pay3_fold (w : S16384x128.Idx → Ideal .f32) :
    k0_pay3 (F := Ideal) w = reduceFold reduces_S4x4096x128_S4x128 (max : EReal → EReal → EReal) ⊥ (k0_pay1 (F := Ideal) w) :=
  (multiReduction_maximumf_eq_reduceFold (F := Ideal) (k0_pay1 (F := Ideal) w) 0xFF800000#32 reduces_S4x4096x128_S4x128 (.inl rfl) rfl).trans
    (congrArg (fun z : EReal => reduceFold reduces_S4x4096x128_S4x128 (max : EReal → EReal → EReal) z (k0_pay1 (F := Ideal) w)) negInf)

theorem lims_low (w : S16384x128.Idx → Ideal .f32) (r : Fin 4) (c : Fin 128) :
    lims (F := Ideal) w (ix2 (r.castLE (by decide)) c) = k0_pay2 (F := Ideal) w (ix2 r c) := by
  unfold lims
  exact dif_pos r.isLt

theorem lims_high (w : S16384x128.Idx → Ideal .f32) (r : Fin 4) (c : Fin 128) :
    lims (F := Ideal) w (ix2 (r.natAdd 4) c) = k0_pay3 (F := Ideal) w (ix2 r c) := by
  have h : ¬ ((r.natAdd 4 : Fin 8)).val < 4 := by rw [Fin.val_natAdd]; omega
  unfold lims
  refine (dif_neg h).trans (congrArg (fun a => k0_pay3 (F := Ideal) w (ix2 a c)) (Fin.ext ?_))
  show (r.natAdd 4 : Fin 8).val - 4 = r.val
  rw [Fin.val_natAdd]; omega

/-- Every lane of the kernel's minima holds the input's infimum, -/
theorem min_eq (X : S16777216.Idx → Ideal .f32) (l : S16.Idx) : allMin (F := Ideal) (accMin (mmOf (F := Ideal) X) 8) l = ⨅ j, X j := by
  refine eq_of_forall_le_iff fun z => ?_
  have h := whole_iff (R := fun a => z ≤ a) (op' := min) (op := minimumf) (fun a b => le_min_iff) (fun a b l => le_min_iff) ⊤ le_top
    (fun r => r.castLE (by decide)) (fun w r c => (lims_low w r c).trans (congrFun (pay2_fold w) _)) X (l 0)
  rw [le_iInf_iff, ← h, eq_ix1 l]
  rfl

/-- and every lane of its maxima the supremum. -/
theorem max_eq (X : S16777216.Idx → Ideal .f32) (l : S16.Idx) : allMax (F := Ideal) (accMax (mmOf (F := Ideal) X) 8) l = ⨆ j, X j := by
  refine eq_of_forall_ge_iff fun z => ?_
  have h := whole_iff (R := fun a => a ≤ z) (op' := max) (op := maximumf) (fun a b => max_le_iff) (fun a b l => max_le_iff) ⊥ bot_le
    (fun r => r.natAdd 4) (fun w r c => (lims_high w r c).trans (congrFun (pay3_fold w) _)) X (l 0)
  rw [iSup_le_iff, ← h, eq_ix1 l]
  rfl

end Cert.Proof.Kern

end
-- ==== Proof.Label.lean ====
/-
  The label as real arithmetic: eight times the distance from the lowest threshold over the thresholds' distance, plus
  one less the last bit of one, cut to an integer, counts the thresholds strictly below the element, if the element
  lies in no gap just above a threshold and 1e-6 is less than the gap between neighbouring thresholds allows.
-/
module

public import Idealize.ShloMosaic.PureOps.Ideal
public import Idealize.ShloMosaic.Lib.ValueIdx

@[expose] public section

noncomputable section

namespace Cert.Proof

open Idealize.ShloMosaic

/-- The last bit of one. -/
def ulp : ℝ := 1 / 8388608

/-- The integer part toward zero. -/
def cut (y : ℝ) : ℤ := if 0 ≤ y then ⌊y⌋ else ⌈y⌉

/-- The label of a place `q`, counted in gaps between thresholds. -/
theorem cut_place (q : ℝ) (h₁ : -1 - ulp < q) (h₂ : q < 9 + ulp) (hc : ∀ k : Fin 9, q ≤ (k.val : ℝ) ∨ (k.val : ℝ) + ulp ≤ q) :
    cut (q + (1 - ulp)) = ((Finset.univ.filter fun k : Fin 9 => (k.val : ℝ) < q).card : ℤ) := by
  have hu : ulp = 1 / 8388608 := rfl
  have hm : ∀ k : Fin 9, (k.val : ℝ) < q ↔ (k.val : ℤ) < ⌈q⌉ := fun k => by rw [Int.lt_ceil]; norm_cast
  have e : (Finset.univ.filter fun k : Fin 9 => (k.val : ℝ) < q) = Finset.univ.filter fun k : Fin 9 => (k.val : ℤ) < ⌈q⌉ :=
    Finset.filter_congr fun k _ => hm k
  rw [e]
  have l := Int.ceil_lt_add_one q
  have u := Int.le_ceil q
  have hlo : -1 ≤ ⌈q⌉ := by
    by_contra h
    have : (⌈q⌉ : ℝ) ≤ -2 := by exact_mod_cast (by omega : ⌈q⌉ ≤ -2)
    linarith
  have hhi : ⌈q⌉ ≤ 10 := by
    by_contra h
    have : (11 : ℝ) ≤ ⌈q⌉ := by exact_mod_cast (by omega : 11 ≤ ⌈q⌉)
    linarith
  generalize ⌈q⌉ = m at hm l u hlo hhi
  have big : ∀ n : ℕ, n ≤ 8 → m = n + 1 → cut (q + (1 - ulp)) = n + 1 := by
    intro n hn e
    have hq : (n : ℝ) + ulp ≤ q := by
      rcases hc ⟨n, by omega⟩ with h | h
      · exact absurd ((hm ⟨n, by omega⟩).2 (by show (n : ℤ) < m; omega)) (not_lt.2 h)
      · exact h
    have e' : (m : ℝ) = n + 1 := by exact_mod_cast congrArg (Int.cast (R := ℝ)) e
    have hn0 : (0 : ℝ) ≤ n := Nat.cast_nonneg n
    unfold cut
    rw [if_pos (by linarith), Int.floor_eq_iff]
    push_cast
    constructor <;> linarith
  have small : m ≤ 0 → cut (q + (1 - ulp)) = 0 := by
    intro h
    have h' : (m : ℝ) ≤ 0 := by exact_mod_cast h
    unfold cut
    split_ifs with h0
    · rw [Int.floor_eq_iff]; push_cast; constructor <;> linarith
    · rw [Int.ceil_eq_iff]; push_cast; constructor <;> linarith
  have top : m = 10 → cut (q + (1 - ulp)) = 9 := by
    rintro rfl
    push_cast at l u
    unfold cut
    rw [if_pos (by linarith), Int.floor_eq_iff]
    push_cast
    constructor <;> linarith
  interval_cases m
  · rw [small (by norm_num)]; decide
  · rw [small (by norm_num)]; decide
  · rw [big 0 (by norm_num) (by norm_num)]; decide
  · rw [big 1 (by norm_num) (by norm_num)]; decide
  · rw [big 2 (by norm_num) (by norm_num)]; decide
  · rw [big 3 (by norm_num) (by norm_num)]; decide
  · rw [big 4 (by norm_num) (by norm_num)]; decide
  · rw [big 5 (by norm_num) (by norm_num)]; decide
  · rw [big 6 (by norm_num) (by norm_num)]; decide
  · rw [big 7 (by norm_num) (by norm_num)]; decide
  · rw [big 8 (by norm_num) (by norm_num)]; decide
  · rw [top rfl]; decide

/-- The `k`-th threshold between `lo` and `hi`. -/
def thr (lo hi : ℝ) (k : Fin 9) : ℝ := lo + (hi - lo) * ((k.val : ℝ) / 8)

/-- The label of an element `x` of an input with least value `a` and largest `b`. -/
theorem cut_label (e a b x : ℝ) (he : 0 < e) (hw : 8 * e < ((b - e) - (a + e)) * (1 + ulp)) (ha : a ≤ x) (hb : x ≤ b)
    (hc : ∀ k : Fin 9, x ≤ thr (a + e) (b - e) k ∨ thr (a + e) (b - e) k + ((b - e) - (a + e)) * (ulp / 8) ≤ x) :
    cut (x * (8 * (1 / ((b - e) - (a + e)))) + ((1 - ulp) - (a + e) * (8 * (1 / ((b - e) - (a + e))))))
      = ((Finset.univ.filter fun k : Fin 9 => thr (a + e) (b - e) k < x).card : ℤ) := by
  have hu : 0 < ulp := by unfold ulp; norm_num
  have hw0 : 0 < (b - e) - (a + e) := by
    by_contra h
    have := mul_nonpos_of_nonpos_of_nonneg (not_lt.1 h) (by linarith : 0 ≤ 1 + ulp)
    linarith
  unfold thr at hc ⊢
  generalize hW : (b - e) - (a + e) = w at hc hw hw0 ⊢
  have hx : x = a + e + w * ((x - (a + e)) * (8 * (1 / w)) / 8) := by field_simp; ring
  have hq : x * (8 * (1 / w)) + ((1 - ulp) - (a + e) * (8 * (1 / w))) = (x - (a + e)) * (8 * (1 / w)) + (1 - ulp) := by ring
  rw [hq]
  generalize (x - (a + e)) * (8 * (1 / w)) = q at hx ⊢
  have lt : ∀ r s : ℝ, r < s → w * r < w * s := fun r s h => mul_lt_mul_of_pos_left h hw0
  have lt' : ∀ r s : ℝ, w * r < w * s → r < s := fun r s h => lt_of_mul_lt_mul_left h hw0.le
  have le : ∀ r s : ℝ, w * r ≤ w * s → r ≤ s := fun r s h => le_of_mul_le_mul_left h hw0
  have e1 : (Finset.univ.filter fun k : Fin 9 => a + e + w * ((k.val : ℝ) / 8) < x) = Finset.univ.filter fun k : Fin 9 => (k.val : ℝ) < q := by
    refine Finset.filter_congr fun k _ => ⟨fun h => ?_, fun h => ?_⟩
    · have := lt' ((k.val : ℝ) / 8) (q / 8) (by linarith)
      linarith
    · have := lt ((k.val : ℝ) / 8) (q / 8) (by linarith)
      linarith
  rw [e1]
  refine cut_place q ?_ ?_ fun k => (hc k).imp (fun h => ?_) fun h => ?_
  · have h : w * (-(1 + ulp) / 8) = -(w * (1 + ulp)) / 8 := by ring
    have := lt' (-(1 + ulp) / 8) (q / 8) (by rw [h]; linarith)
    linarith
  · have h : w * ((9 + ulp) / 8) = w + w * (1 + ulp) / 8 := by ring
    have := lt' (q / 8) ((9 + ulp) / 8) (by rw [h]; linarith)
    linarith
  · have := le (q / 8) ((k.val : ℝ) / 8) (by linarith)
    linarith
  · have := le (((k.val : ℝ) + ulp) / 8) (q / 8) (by linarith)
    linarith

end Cert.Proof

end
-- ==== Proof.Thresholds.lean ====
/-
  The reference, the mask and the precondition read off as statements about extended reals: the least and the largest
  element, the nine thresholds between them, the count of thresholds below an element, the gaps just above the
  thresholds, and the bound on the distance between the extremes.
-/
module

public import proofs.«01_k».proof.Proof.Gen.Pre_spread
public import proofs.«01_k».proof.Proof.Gen.Pre_spread_all_clear
public import proofs.«01_k».proof.Proof.Gen.On_clear
public import proofs.«01_k».proof.Proof.Extrema
public import proofs.«01_k».proof.Proof.Label
public import Idealize.ShloMosaic.Lib.ReduceAll
public import Idealize.ShloMosaic.Lib.IdealHost
public import Idealize.ShloMosaic.Lib.Pipeline.Value
public import Idealize.ShloMosaic.Lib.StableHlo.Predicate

@[expose] public section

noncomputable section

namespace Cert.Proof

open Cert.On_clear
open Idealize.ShloMosaic hiding ix1 ix2 ix3 eq_ix1 eq_ix2 eq_ix3
open Idealize.ShloMosaic.ValueIdx (ix1 ix2 ix3 eq_ix1 eq_ix2 eq_ix3)

/-! ## Comparisons and words -/

theorem bit_eq_one {p : Prop} [Decidable p] : BitVec.ofBool (decide p) = 1#1 ↔ p := by
  by_cases h : p <;> simp [h]

theorem cmp_gt {x y : EReal} : Ideal.cmp .ogt x y = 1#1 ↔ y < x := bit_eq_one
theorem cmp_ge {x y : EReal} : Ideal.cmp .oge x y = 1#1 ↔ y ≤ x := bit_eq_one
theorem cmp_lt {x y : EReal} : Ideal.cmp .olt x y = 1#1 ↔ x < y := bit_eq_one
theorem cmp_le {x y : EReal} : Ideal.cmp .ole x y = 1#1 ↔ x ≤ y := bit_eq_one

/-- The word nearest to 1e-6, as a real. -/
def eps : ℝ := 8796093 / 8796093022208

theorem eps_pos : 0 < eps := by unfold eps; norm_num

theorem word_eps : Ideal.ofBits .f32 0x358637BD#32 = (eps : EReal) := by
  unfold eps; simp [Ideal.ofBits, Ideal.ieee, -EReal.coe_mul]; norm_num
theorem word_eps8 : Ideal.ofBits .f32 0x370637BD#32 = ((8 * eps : ℝ) : EReal) := by
  unfold eps; simp [Ideal.ofBits, Ideal.ieee, -EReal.coe_mul]; norm_num
theorem word_eight : Ideal.ofBits .f32 0x41000000#32 = ((8 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_above : Ideal.ofBits .f32 0x3F800001#32 = ((1 + ulp : ℝ) : EReal) := by
  rw [show (1 + ulp : ℝ) = 8388609 / 8388608 by unfold ulp; norm_num]
  simp [Ideal.ofBits, Ideal.ieee, -EReal.coe_mul]; norm_num
theorem word_below : Ideal.ofBits .f32 0x3F7FFFFE#32 = ((1 - ulp : ℝ) : EReal) := by
  rw [show (1 - ulp : ℝ) = 8388607 / 8388608 by unfold ulp; norm_num]
  simp [Ideal.ofBits, Ideal.ieee, -EReal.coe_mul]; norm_num
theorem word_gap : Ideal.ofBits .f32 0x32800000#32 = ((ulp / 8 : ℝ) : EReal) := by
  unfold ulp; simp [Ideal.ofBits, Ideal.ieee, -EReal.coe_mul]; norm_num

/-! ## The extremes -/

/-- The least element and the word next to 1e-6, and the largest less it, as scalar arrays. -/
def lowA (X : FVec Ideal S16777216 .f32) : FVec Ideal S_ .f32 :=
  addf (Host.reduce FloatOps.minimumf X (constant S_ .f32 0x7F800000#32) Facts.reducesTo_S16777216_S_d0 Facts.h_S_) (constant S_ .f32 0x358637BD#32)
def highA (X : FVec Ideal S16777216 .f32) : FVec Ideal S_ .f32 :=
  subf (Host.reduce FloatOps.maximumf X (constant S_ .f32 0xFF800000#32) Facts.reducesTo_S16777216_S_d0 Facts.h_S_) (constant S_ .f32 0x358637BD#32)

theorem lowA_apply (X : FVec Ideal S16777216 .f32) (j : S_.Idx) : lowA X j = (⨅ i, X i : EReal) + (eps : EReal) := by
  rw [lowA, ValueIdx.addf_apply, ValueIdx.constant_apply]
  refine congrArg₂ (· + ·) (eq_of_forall_le_iff fun z => ?_) word_eps
  refine (Kern.hostReduce_iff (R := fun v : EReal => z ≤ v) (fun a b => le_min_iff) _ _ X _ j).trans ?_
  rw [le_iInf_iff]
  exact ⟨fun h i => h.2 i (Subsingleton.elim _ _), fun h => ⟨le_of_le_of_eq le_top Kern.posInf.symm, fun i _ => h i⟩⟩

theorem highA_apply (X : FVec Ideal S16777216 .f32) (j : S_.Idx) : highA X j = (⨆ i, X i : EReal) - (eps : EReal) := by
  rw [highA, ValueIdx.subf_apply, ValueIdx.constant_apply]
  refine congrArg₂ (· - ·) (eq_of_forall_ge_iff fun z => ?_) word_eps
  refine (Kern.hostReduce_iff (R := fun v : EReal => v ≤ z) (fun a b => max_le_iff) _ _ X _ j).trans ?_
  rw [iSup_le_iff]
  exact ⟨fun h i => h.2 i (Subsingleton.elim _ _), fun h => ⟨le_of_eq_of_le Kern.negInf bot_le, fun i _ => h i⟩⟩

/-! ## The thresholds -/

/-- The nine thresholds of an input. -/
def lineA (X : FVec Ideal S16777216 .f32) : FVec Ideal S9 .f32 := fn_linspace (lowA X) (highA X)

theorem small : ∀ k : Fin 9, (BitVec.ofNat 32 k.val).toInt = (k.val : ℤ) := by decide

/-- Between real ends they are evenly spaced. -/
theorem line_apply (a b : FVec Ideal S_ .f32) (lo hi : ℝ) (ha : ∀ j, a j = (lo : EReal)) (hb : ∀ j, b j = (hi : EReal)) (k : Fin 9) :
    fn_linspace (F := Ideal) a b (ix1 k) = (thr lo hi k : EReal) := by
  unfold fn_linspace
  by_cases hk : k.val < 8
  · refine (concatenate_pair_apply_left (s₁ := S8) (s₂ := S1) (t := S9) 0 _ _ _ (ix1 k) rfl (ix1 (⟨k.val, hk⟩ : Fin 8)) (fun b => by match b with | ⟨0, _⟩ => rfl)).trans ?_
    have q : Ideal.div (((BitVec.ofNat 32 k.val).toInt : ℝ) : EReal) (Ideal.ofBits .f32 0x41000000#32) = (((k.val : ℝ) / 8 : ℝ) : EReal) := by
      rw [word_eight, Ideal.div_coe (by norm_num), ← EReal.coe_mul, small k]
      refine congrArg Real.toEReal ?_
      push_cast
      ring
    show a _ * (Ideal.ofBits .f32 0x3F800000#32 - Ideal.div (((BitVec.ofNat 32 k.val).toInt : ℝ) : EReal) (Ideal.ofBits .f32 0x41000000#32))
      + b _ * Ideal.div (((BitVec.ofNat 32 k.val).toInt : ℝ) : EReal) (Ideal.ofBits .f32 0x41000000#32) = _
    rw [q, word_one, ha, hb]
    rw [← EReal.coe_sub, ← EReal.coe_mul, ← EReal.coe_mul, ← EReal.coe_add]
    refine congrArg Real.toEReal ?_
    unfold thr
    ring
  · have e : k.val = 8 := by omega
    refine (concatenate_pair_apply_right (s₁ := S8) (s₂ := S1) (t := S9) 0 _ _ _ (ix1 k) rfl rfl (ix1 (0 : Fin 1)) (fun b hb => absurd (Subsingleton.elim (α := Fin 1) _ _) hb) e.symm).trans ?_
    refine (hb _).trans (congrArg Real.toEReal ?_)
    unfold thr
    rw [e]
    push_cast
    ring

end Cert.Proof

end
-- ==== Proof.Clear.lean ====
/-
  The mask and the precondition read off as statements about extended reals: where an element lies in no gap just above
  a threshold, and how far apart the extremes are.
-/
module

public import proofs.«01_k».proof.Proof.Thresholds

@[expose] public section

noncomputable section

namespace Cert.Proof

open Cert.On_clear
open Idealize.ShloMosaic hiding ix1 ix2 ix3 eq_ix1 eq_ix2 eq_ix3
open Idealize.ShloMosaic.ValueIdx (ix1 ix2 ix3 eq_ix1 eq_ix2 eq_ix3)

/-! ## The mask, the precondition and the reference -/

/-- An element repeated along its row, and the thresholds repeated down their columns. -/
abbrev rowsA (X : FVec Ideal S16777216 .f32) : FVec Ideal S16777216x9 .f32 :=
  broadcastInDim S16777216x9 ![0, 1] Facts.bcast_S16777216x1_S16777216x9_0_1 (broadcastInDim S16777216x1 ![0] Facts.bcast_S16777216_S16777216x1_0 X)
abbrev colsA (t : FVec Ideal S9 .f32) : FVec Ideal S16777216x9 .f32 :=
  broadcastInDim S16777216x9 ![0, 1] Facts.bcast_S1x9_S16777216x9_0_1 (broadcastInDim S1x9 ![1] Facts.bcast_S9_S1x9_1 t)

theorem rowsA_apply (X : FVec Ideal S16777216 .f32) (i : Fin 16777216) (k : Fin 9) : rowsA X (ix2 i k) = X (ix1 i) :=
  (broadcastInDim_apply _ _ _ (ix2 i k) (ix2 i (0 : Fin 1)) fun a => by match a with | ⟨0, _⟩ => rfl | ⟨1, _⟩ => rfl).trans
    (broadcastInDim_apply _ _ _ (ix2 i (0 : Fin 1)) (ix1 i) fun a => by match a with | ⟨0, _⟩ => rfl)

theorem colsA_apply (t : FVec Ideal S9 .f32) (i : Fin 16777216) (k : Fin 9) : colsA t (ix2 i k) = t (ix1 k) :=
  (broadcastInDim_apply _ _ _ (ix2 i k) (ix2 (0 : Fin 1) k) fun a => by match a with | ⟨0, _⟩ => rfl | ⟨1, _⟩ => rfl).trans
    (broadcastInDim_apply _ _ _ (ix2 (0 : Fin 1) k) (ix1 k) fun a => by match a with | ⟨0, _⟩ => rfl)

/-- The gaps' upper ends: a gap's width above each threshold. -/
def aboveA (X : FVec Ideal S16777216 .f32) : FVec Ideal S9 .f32 :=
  addf (lineA X) (broadcastInDim S9 ![] Facts.bcast_S_S9 (mulf (subf (highA X) (lowA X)) (constant S_ .f32 0x32800000#32)))

/-- The mask's bits, one for each element and threshold. -/
def outA (X : FVec Ideal S16777216 .f32) : IVec S16777216x9 1 :=
  ori (cmpf .ole (rowsA X) (colsA (lineA X))) (cmpf .oge (rowsA X) (colsA (aboveA X)))

/-- The mask as a term of those bits. -/
theorem clear_eq (X : FVec Ideal S16777216 .f32) :
    Cert.On_clear.fn (F := Ideal) X = Host.reduce IntOp.andi (outA X) (constantI S_ 1 1#1) Facts.reducesTo_S16777216x9_S16777216_d1 Facts.h_S_ := rfl

/-- The bit of finiteness, and of the extremes' distance. -/
def finA (X : FVec Ideal S16777216 .f32) : IVec S16777216 1 :=
  cmpf .olt (Host.absf X) (broadcastInDim S16777216 ![] Cert.Pre_spread.Facts.bcast_S_S16777216 (constant S_ .f32 0x7F800000#32))
def wideA (X : FVec Ideal S16777216 .f32) : IVec S_ 1 :=
  cmpf .ogt (mulf (subf (highA X) (lowA X)) (constant S_ .f32 0x3F800001#32)) (constant S_ .f32 0x370637BD#32)

theorem spread_eq (X : FVec Ideal S16777216 .f32) :
    Cert.Pre_spread.fn (F := Ideal) X = andi (Host.reduce IntOp.andi (finA X) (constantI S_ 1 1#1) Facts.reducesTo_S16777216_S_d0 Facts.h_S_) (wideA X) := rfl

theorem all_clear_eq (X : FVec Ideal S16777216 .f32) :
    Cert.Pre_spread_all_clear.fn (F := Ideal) X = andi (Cert.Pre_spread.fn (F := Ideal) X)
      (Host.reduce IntOp.andi (Cert.On_clear.fn (F := Ideal) X) (constantI S_ 1 1#1) Facts.reducesTo_S16777216_S_d0 Facts.h_S_) := rfl

/-- A disjunction, a comparison and a magnitude at an index, -/
theorem ori_at {s : Shape} (a b : IVec s 1) (j : s.Idx) : ori a b j = IntOp.ori (a j) (b j) := rfl
theorem andi_at {s : Shape} (a b : IVec s 1) (j : s.Idx) : andi a b j = IntOp.andi (a j) (b j) := rfl
theorem cmpf_at {s : Shape} (p : CmpFPredicate) (a b : FVec Ideal s .f32) (j : s.Idx) : cmpf p a b j = Ideal.cmp p (a j) (b j) := rfl
theorem absf_at {s : Shape} (a : FVec Ideal s .f32) (j : s.Idx) : Host.absf a j = max (a j : EReal) (-(a j : EReal)) := rfl

/-- and so the arrays above. -/
theorem outA_apply (X : FVec Ideal S16777216 .f32) (j : S16777216x9.Idx) :
    outA X j = IntOp.ori (Ideal.cmp .ole (rowsA X j) (colsA (lineA X) j)) (Ideal.cmp .oge (rowsA X j) (colsA (aboveA X) j)) := by
  rw [outA, ori_at, cmpf_at, cmpf_at]
theorem finA_apply (X : FVec Ideal S16777216 .f32) (j : S16777216.Idx) (z : S_.Idx) :
    finA X j = Ideal.cmp .olt (max (X j : EReal) (-(X j : EReal))) (Ideal.ofBits .f32 0x7F800000#32) := by
  rw [finA, cmpf_at, absf_at, broadcastInDim_apply _ _ _ j z fun a => a.elim0, ValueIdx.constant_apply]
theorem aboveA_apply (X : FVec Ideal S16777216 .f32) (j : S9.Idx) (z : S_.Idx) :
    aboveA X j = lineA X j + (highA X z - lowA X z) * Ideal.ofBits .f32 0x32800000#32 := by
  rw [aboveA, ValueIdx.addf_apply, broadcastInDim_apply _ _ _ j z fun a => a.elim0, ValueIdx.mulf_apply, ValueIdx.subf_apply, ValueIdx.constant_apply]
theorem wideA_apply (X : FVec Ideal S16777216 .f32) (z : S_.Idx) :
    wideA X z = Ideal.cmp .ogt ((highA X z - lowA X z) * Ideal.ofBits .f32 0x3F800001#32) (Ideal.ofBits .f32 0x370637BD#32) := by
  rw [wideA, cmpf_at, ValueIdx.mulf_apply, ValueIdx.subf_apply, ValueIdx.constant_apply, ValueIdx.constant_apply]

/-- Where the mask holds, the element lies in no gap just above a threshold. -/
theorem clear_apply (X : FVec Ideal S16777216 .f32) (i : Fin 16777216) (h : Cert.On_clear.fn (F := Ideal) X (ix1 i) = 1#1) (k : Fin 9) (z : S_.Idx) :
    X (ix1 i) ≤ lineA X (ix1 k) ∨ lineA X (ix1 k) + (highA X z - lowA X z) * ((ulp / 8 : ℝ) : EReal) ≤ X (ix1 i) := by
  rw [clear_eq] at h
  have d : (Facts.reducesTo_S16777216x9_S16777216_d1 : S16777216x9.ReducesTo [1] S16777216).drop (ix2 i k) = ix1 i := by
    rw [eq_ix1 (Shape.ReducesTo.drop _ _)]
    exact congrArg ix1 (Fin.ext (Shape.ReducesTo.drop_apply_val_of_eq Facts.reducesTo_S16777216x9_S16777216_d1 (ix2 i k) 0 0))
  have h' := Host.reduce_andi_eq_one _ _ _ _ _ h (ix2 i k) d
  rw [outA_apply, rowsA_apply, colsA_apply, colsA_apply, aboveA_apply X _ z, word_gap] at h'
  exact (IntOp.ori_eq_one.1 h').imp cmp_le.1 cmp_ge.1

/-- The precondition makes every element real, and bounds the distance between the extremes from below. -/
theorem spread_apply (X : FVec Ideal S16777216 .f32) (h : Cert.Pre_spread.fn (F := Ideal) X = fun _ => 1#1) (z : S_.Idx) :
    (∀ i, ∃ x : ℝ, X i = (x : EReal)) ∧ ((8 * eps : ℝ) : EReal) < (highA X z - lowA X z) * ((1 + ulp : ℝ) : EReal) := by
  rw [spread_eq] at h
  have h' := congrFun h z
  rw [andi_at] at h'
  obtain ⟨h₁, h₂⟩ := IntOp.andi_eq_one.1 h'
  constructor
  · intro i
    have h₃ := Host.reduce_andi_all _ _ _ _ _ h₁ i
    rw [finA_apply X i z, cmp_lt, Kern.posInf] at h₃
    have t : X i ≠ ⊤ := fun e => absurd (lt_of_le_of_lt (le_max_left _ _) h₃) (by rw [e]; exact lt_irrefl _)
    have b : X i ≠ ⊥ := fun e => absurd (lt_of_le_of_lt (le_max_right _ _) h₃) (by rw [e]; exact lt_irrefl _)
    exact ⟨(X i).toReal, (EReal.coe_toReal t b).symm⟩
  · rw [wideA_apply, cmp_gt, word_eps8, word_above] at h₂
    exact h₂

/-- The precondition without a mask is the other one and the mask's everywhere. -/
theorem all_clear_apply (X : FVec Ideal S16777216 .f32) (h : Cert.Pre_spread_all_clear.fn (F := Ideal) X = fun _ => 1#1) :
    (Cert.Pre_spread.fn (F := Ideal) X = fun _ => 1#1) ∧ ∀ i, Cert.On_clear.fn (F := Ideal) X i = 1#1 := by
  rw [all_clear_eq] at h
  have h' : ∀ j, _ := fun j => IntOp.andi_eq_one.1 ((andi_at _ _ j).symm.trans (congrFun h j))
  exact ⟨funext fun j => (h' j).1, fun i => Host.reduce_andi_all _ _ _ _ _ (h' fun a => a.elim0).2 i⟩

end Cert.Proof

end
-- ==== Proof.Value.lean ====
/-
  The kernel's labels are the reference's: at every element outside the gaps, for every finite input whose outer
  thresholds lie far enough apart; and, where no element lies in a gap, everywhere.
-/
module

public import proofs.«01_k».proof.Proof.Clear
public import proofs.«01_k».proof.Proof.Frames

@[expose] public section

noncomputable section

namespace Cert.Proof

open Cert.On_clear
open Idealize.ShloMosaic hiding ix1 ix2 ix3 eq_ix1 eq_ix2 eq_ix3
open Idealize.ShloMosaic.ValueIdx (ix1 ix2 ix3 eq_ix1 eq_ix2 eq_ix3)
open Idealize.SL.Sem

/-! ## The kernel's label of an element -/

/-- The label as a product, a sum and a conversion, -/
theorem lab_apply (st bi : FVec Ideal Cert.KernelIdeal.S16 .f32) (v : EReal) (l : Cert.KernelIdeal.S16.Idx) :
    Kern.lab (F := Ideal) st bi v l = Ideal.fptosi 32 (v * st l + bi l) := rfl

/-- whose factor and summand come from the extremes. -/
theorem stepOf_apply (mn mx : FVec Ideal Cert.KernelIdeal.S16 .f32) (l : Cert.KernelIdeal.S16.Idx) :
    Kern.stepOf mn mx l = Ideal.div (Ideal.ofBits .f32 0x41000000#32)
      ((mx l - Ideal.ofBits .f32 0x358637BD#32) - (mn l + Ideal.ofBits .f32 0x358637BD#32)) := rfl
theorem biasOf_apply (mn mx : FVec Ideal Cert.KernelIdeal.S16 .f32) (l : Cert.KernelIdeal.S16.Idx) :
    Kern.biasOf mn mx l = Ideal.ofBits .f32 0x3F7FFFFE#32 - (mn l + Ideal.ofBits .f32 0x358637BD#32) * Kern.stepOf mn mx l := rfl

/-- Between real extremes `a` and `b` that are not the thresholds' collapse, the label of a real element. -/
theorem lab_real (mn mx : FVec Ideal Cert.KernelIdeal.S16 .f32) (l : Cert.KernelIdeal.S16.Idx) (a b x : ℝ)
    (ha : mn l = (a : EReal)) (hb : mx l = (b : EReal)) (hw : (b - eps) - (a + eps) ≠ 0) :
    Kern.lab (F := Ideal) (Kern.stepOf mn mx) (Kern.biasOf mn mx) (x : EReal) l
      = Ideal.fptosi 32 ((x * (8 * (1 / ((b - eps) - (a + eps)))) + ((1 - ulp) - (a + eps) * (8 * (1 / ((b - eps) - (a + eps))))) : ℝ) : EReal) := by
  have hs : Kern.stepOf mn mx l = ((8 * (1 / ((b - eps) - (a + eps))) : ℝ) : EReal) := by
    rw [stepOf_apply, ha, hb, word_eps, word_eight, ← EReal.coe_sub, ← EReal.coe_add, ← EReal.coe_sub, Ideal.div_coe hw, ← EReal.coe_mul]
  rw [lab_apply, biasOf_apply, hs, ha, word_eps, word_below, ← EReal.coe_add, ← EReal.coe_mul, ← EReal.coe_mul, ← EReal.coe_sub, ← EReal.coe_add]

/-- A real whose integer part is a small natural converts to it. -/
theorem fptosi_small (y : ℝ) (n : ℕ) (h : cut y = (n : ℤ)) (hn : n ≤ 9) : Ideal.fptosi 32 (y : EReal) = BitVec.ofNat 32 n := by
  unfold cut at h
  rw [Ideal.fptosi, Ideal.toIntClamped_coe, h]
  interval_cases n <;> rfl

/-! ## The reference's label of an element -/

/-- The count of the thresholds below each element. -/
def refA (X : FVec Ideal S16777216 .f32) : IVec S16777216 32 :=
  Host.reduce IntOp.addi (extui 32 (cmpf .ogt (rowsA X) (colsA (lineA X))) (by decide)) (constantI S_ 32 0#32)
    Facts.reducesTo_S16777216x9_S16777216_d1 Facts.h_S_

theorem refA_apply (X : FVec Ideal S16777216 .f32) (i : Fin 16777216) :
    refA X (ix1 i) = BitVec.ofNat 32 (Finset.univ.filter fun k : Fin 9 => lineA X (ix1 k) < X (ix1 i)).card := by
  apply BitVec.eq_of_toNat_eq
  have c : (Finset.univ.filter fun k : Fin 9 => lineA X (ix1 k) < X (ix1 i)).card < 2 ^ 32 :=
    lt_of_le_of_lt (Finset.card_le_univ _) (by simp)
  rw [refA, StableHlo.Predicate.toNat_reduce_count_cols (by norm_num), BitVec.toNat_ofNat, Nat.mod_eq_of_lt c]
  refine congrArg Finset.card (Finset.filter_congr fun k _ => ?_)
  have e : StableHlo.Predicate.ij i k = ix2 i k := by
    funext b
    match b with
    | ⟨0, _⟩ => rfl
    | ⟨1, _⟩ => rfl
  show cmpf .ogt (rowsA X) (colsA (lineA X)) (StableHlo.Predicate.ij i k) = 1#1 ↔ _
  rw [e, cmpf_at, rowsA_apply, colsA_apply, cmp_gt]

/-! ## They agree -/

/-- The labels agree at an element where the mask holds. -/
theorem label_eq (X : FVec Ideal S16777216 .f32) (hp : Cert.Pre_spread.fn (F := Ideal) X = fun _ => 1#1)
    (i : Fin 16777216) (hc : Cert.On_clear.fn (F := Ideal) X (ix1 i) = 1#1) : Kern.labelsOf (F := Ideal) X (ix1 i) = refA X (ix1 i) := by
  have z : S_.Idx := fun a => a.elim0
  obtain ⟨hr, hw⟩ := spread_apply X hp z
  choose x hx using hr
  haveI : Nonempty S16777216.Idx := ⟨ix1 i⟩
  obtain ⟨p, hmin⟩ := Finite.exists_min x
  obtain ⟨q, hmax⟩ := Finite.exists_max x
  have ea : (⨅ j, X j : EReal) = (x p : EReal) :=
    le_antisymm ((iInf_le _ p).trans_eq (hx p)) (le_iInf fun j => by rw [hx j]; exact EReal.coe_le_coe_iff.2 (hmin j))
  have eb : (⨆ j, X j : EReal) = (x q : EReal) :=
    le_antisymm (iSup_le fun j => by rw [hx j]; exact EReal.coe_le_coe_iff.2 (hmax j)) ((hx q).symm.trans_le (le_iSup (fun j => (X j : EReal)) q))
  have el : ∀ j, lowA X j = ((x p + eps : ℝ) : EReal) := fun j => by rw [lowA_apply, ea, EReal.coe_add]
  have eh : ∀ j, highA X j = ((x q - eps : ℝ) : EReal) := fun j => by rw [highA_apply, eb, EReal.coe_sub]
  have et : ∀ k : Fin 9, lineA X (ix1 k) = (thr (x p + eps) (x q - eps) k : EReal) := fun k => line_apply _ _ _ _ el eh k
  rw [el, eh, ← EReal.coe_sub, ← EReal.coe_mul, EReal.coe_lt_coe_iff] at hw
  have hu : 0 < 1 + ulp := by unfold ulp; norm_num
  have w0 : (x q - eps) - (x p + eps) ≠ 0 := fun h => by rw [h, zero_mul] at hw; linarith [eps_pos]
  have hk := cut_label eps (x p) (x q) (x (ix1 i)) eps_pos hw (hmin _) (hmax _) fun k => by
    have h := clear_apply X i hc k z
    rw [el, eh, et, hx, ← EReal.coe_sub, ← EReal.coe_mul, ← EReal.coe_add, EReal.coe_le_coe_iff, EReal.coe_le_coe_iff] at h
    exact h
  have ef : (Finset.univ.filter fun k : Fin 9 => lineA X (ix1 k) < X (ix1 i))
      = Finset.univ.filter fun k : Fin 9 => thr (x p + eps) (x q - eps) k < x (ix1 i) :=
    Finset.filter_congr fun k _ => by rw [et, hx, EReal.coe_lt_coe_iff]
  rw [refA_apply, ef, ← fptosi_small _ _ hk ((Finset.card_le_univ _).trans_eq (Fintype.card_fin 9))]
  rw [Kern.labelsOf, Kern.labX, Kern.stepM, Kern.biasM, hx (ix1 i)]
  exact lab_real _ _ _ _ _ _ ((Kern.min_eq X _).trans ea) ((Kern.max_eq X _).trans eb) w0

/-- The labels agree wherever the mask holds. -/
theorem labels_eq (X : FVec Ideal S16777216 .f32) (hp : Cert.Pre_spread.fn (F := Ideal) X = fun _ => 1#1)
    (j : S16777216.Idx) (hc : Cert.On_clear.fn (F := Ideal) X j = 1#1) : Kern.labelsOf (F := Ideal) X j = refA X j := by
  rw [eq_ix1 j] at hc ⊢
  exact label_eq X hp (j 0) hc

/-! ## The claims -/

/-- The reference's run, its result named. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v11)
            = refA (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run Cert.ReferenceIdeal.defs _ _).mono (fun _ h c => ⟨(h c).1, (h c).2⟩) (Cert.ReferenceIdeal.Value.run (F := Ideal) m g)

/-- Outside the gaps the kernel gives the reference's labels. -/
theorem algebraic_on_clear : Cert.algebraic_KernelIdeal_ReferenceIdeal_on_clear_pre_spread := by
  intro m g m' g' hp hm
  refine ⟨fun c => Kern.labelsOf (F := Ideal) (m (Kern.xLoc c)), ?_, ?_⟩
  · exact (θ_run Cert.KernelIdeal.defs _ _).mono (fun r h c => ⟨fun i _ => congrFun (h.1 c).2 i, (h.1 c).1⟩) (Kern.run_main (F := Ideal) m g)
  · refine (θ_run Cert.ReferenceIdeal.defs _ _).mono (fun r h c => ⟨fun i hi => ?_, (h c).2⟩) (run_reference m' g')
    rw [(h c).1, hm c]
    exact (labels_eq _ (hp c) i hi).symm

/-- Where no element lies in a gap, it gives them everywhere. -/
theorem algebraic_all_clear : Cert.algebraic_KernelIdeal_ReferenceIdeal_pre_spread_all_clear := by
  intro m g m' g' hp hm
  refine ⟨fun c => Kern.labelsOf (F := Ideal) (m (Kern.xLoc c)), ?_, ?_⟩
  · exact (θ_run Cert.KernelIdeal.defs _ _).mono (fun r h c => ⟨(h.1 c).2, (h.1 c).1⟩) (Kern.run_main (F := Ideal) m g)
  · refine (θ_run Cert.ReferenceIdeal.defs _ _).mono (fun r h c => ⟨?_, (h c).2⟩) (run_reference m' g')
    rw [(h c).1, hm c]
    obtain ⟨hs, ha⟩ := all_clear_apply _ (hp c)
    exact funext fun i => (labels_eq _ hs i (ha i)).symm

end Cert.Proof

end
-- ==== Proof.lean ====
/-
  The claims of this certificate, put together: the three programs run from every memory and leave their input as it
  was, the two copies of the kernel are one program, and the kernel's labels are the reference's.
-/
module

public import proofs.«01_k».proof.Defs
public import proofs.«01_k».proof.Proof.Frames
public import proofs.«01_k».proof.Proof.Value

@[expose] public section

noncomputable section

namespace Cert.Proof

/-- Every claim of this certificate. -/
theorem claim : Cert.Claim :=
  ⟨Cert.Kernel.Gen.facts, Cert.KernelIdeal.Gen.facts, Cert.ReferenceIdeal.Gen.facts,
    Cert.Pre_spread.Gen.facts, Cert.Pre_spread_all_clear.Gen.facts, Cert.On_clear.Gen.facts,
    frame_kernel,
    frame_kernelIdeal, fun m ρ _ => frame_kernelIdeal m ρ trivial, fun m ρ _ => frame_kernelIdeal m ρ trivial,
    frame_referenceIdeal, fun m ρ _ => frame_referenceIdeal m ρ trivial, fun m ρ _ => frame_referenceIdeal m ρ trivial,
    trivial, algebraic_on_clear, algebraic_all_clear⟩

end Cert.Proof

end
